-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![2048, 1]⟩ ⟨2, ![4096, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S16x128 : Shape := ⟨2, ![16, 128]⟩
abbrev S1024x1024 : Shape := ⟨2, ![1024, 1024]⟩
abbrev S2 : Shape := ⟨1, ![2]⟩
abbrev S_ : Shape := ⟨0, ![]⟩
abbrev S1024x128 : Shape := ⟨2, ![1024, 128]⟩
abbrev S1024 : Shape := ⟨1, ![1024]⟩
abbrev S8x128 : Shape := ⟨2, ![8, 128]⟩
abbrev S1 : Shape := ⟨1, ![1]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S16x128, .bf16⟩
  | .hbm, ⟨2, _⟩ => ⟨S2048x1, .bf16⟩
  | .local _ .vmem, ⟨0, _⟩ => ⟨S1024x1024, .bf16⟩
  | .local _ .vmem, ⟨1, _⟩ => ⟨S1024x1024, .bf16⟩
  | .local _ .vmem, ⟨2, _⟩ => ⟨S16x128, .bf16⟩
  | .local _ .vmem, ⟨3, _⟩ => ⟨S16x128, .bf16⟩
  | .local _ .vmem, ⟨4, _⟩ => ⟨S16x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 4
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_3 : BitVec 32 := 0#32
  let v10 : BitVec 1 := Scalar.cmpi .ne v9 c0_i32_3
  v10

def k0_dev1 (d0 : Dev nD) : Nat :=
  let c0_i32_19 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_18 : BitVec 32 := 2#32
  let v47 : BitVec 32 := Scalar.muli v2 c2_i32_18
  let v48 : BitVec 32 := Scalar.addi c0_i32_19 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_20 : BitVec 32 := 1#32
  let v49 : BitVec 32 := Scalar.muli v6 c1_i32_20
  let v50 : BitVec 32 := Scalar.addi v48 v49
  v50.toNat
def k0_off1 (i : grid0.Coords) : Fin 2 → Nat :=
  let arg0 : BitVec 32 := BitVec.ofNat 32 (i 0).val
  let c8_i32 : BitVec 32 := 8#32
  let v36 : BitVec 32 := Scalar.muli arg0 c8_i32
  let v37 : Index := Scalar.indexCast v36
  let c0_12 : Index := 0#32
  ![v37.toNat, 0]
def k0_cond2 (i : grid0.Coords) : BitVec 1 :=
  let arg0 : BitVec 32 := BitVec.ofNat 32 (i 0).val
  let c0_i32_13 : BitVec 32 := 0#32
  let v41 : BitVec 1 := Scalar.cmpi .eq arg0 c0_i32_13
  let v42 : BitVec 32 := Scalar.extui v41
  let c0_i32_14 : BitVec 32 := 0#32
  let v43 : BitVec 1 := Scalar.cmpi .ne v42 c0_i32_14
  v43

def k0_dev2 (d0 : Dev nD) : Nat :=
  let c0_i32_21 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_20 : BitVec 32 := 2#32
  let v47 : BitVec 32 := Scalar.muli v2 c2_i32_20
  let v48 : BitVec 32 := Scalar.addi c0_i32_21 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_22 : BitVec 32 := 1#32
  let v49 : BitVec 32 := Scalar.muli v6 c1_i32_22
  let v50 : BitVec 32 := Scalar.addi v48 v49
  v50.toNat
def k0_cond3 (i : grid0.Coords) : BitVec 1 :=
  let arg0 : BitVec 32 := BitVec.ofNat 32 (i 0).val
  let c1_i32_15 : BitVec 32 := 1#32
  let v44 : BitVec 1 := Scalar.cmpi .eq arg0 c1_i32_15
  let v45 : BitVec 32 := Scalar.extui v44
  let c0_i32_16 : BitVec 32 := 0#32
  let v46 : BitVec 1 := Scalar.cmpi .ne v45 c0_i32_16
  v46

def k0_dev3 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v47 : BitVec 32 := Scalar.muli v2 c2_i32_19
  let v48 : BitVec 32 := Scalar.addi c0_i32_20 v47
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v49 : BitVec 32 := Scalar.muli v6 c1_i32_21
  let v50 : BitVec 32 := Scalar.addi v48 v49
  v50.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x2048 : Shape := ⟨2, ![4096, 2048]⟩
abbrev S_ : Shape := ⟨0, ![]⟩
abbrev S4096 : Shape := ⟨1, ![4096]⟩
abbrev S4096x1 : Shape := ⟨2, ![4096, 1]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S_, .bf16⟩
  | .hbm, ⟨2, _⟩ => ⟨S4096, .bf16⟩
  | .hbm, ⟨3, _⟩ => ⟨S4096x1, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Halves.lean ====
/-
# The two halves of the packed row maxima

Each device keeps the row maxima of its own block of the matrix packed in a 16 × 128 scratch buffer: row `128 a + b` of
the block at place `(a, b)`. Grid point `k` writes the upper half (`k = 0`, rows 0–7) or the lower half (`k = 1`,
rows 8–15), and each half travels to the peer by a copy of its own. This module names the buffers, the halves, the
contents, and shows what a store or a landed copy makes of a half.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.ValueIdxCore

@[expose] public section

noncomputable section

namespace Cert.RowMax

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## The peer on the other column of the mesh -/

/-- Device `2 i + j` of the 2 × 2 mesh exchanges with device `2 i + (1 - j)`: the two hold the same rows. -/
def peer (c : Dev nD) : Dev nD :=
  ⟨2 * (c.val / 2) + 1 - c.val % 2, by have := c.isLt; revert this; generalize c.val = v; decide +revert⟩

theorem peer_peer (c : Dev nD) : peer (peer c) = c := by revert c; decide

/-- The exchange as a permutation of the devices. -/
def peers : Dev nD ≃ Dev nD := ⟨peer, peer, peer_peer, peer_peer⟩

theorem dev1_eq (c : Dev nD) (h : k0_dev1 c < nD) : (⟨k0_dev1 c, h⟩ : Dev nD) = peer c := Fin.ext (k0_dev1_eq c)
theorem dev2_eq (c : Dev nD) (h : k0_dev2 c < nD) : (⟨k0_dev2 c, h⟩ : Dev nD) = peer c := Fin.ext (k0_dev2_eq c)
theorem dev3_eq (c : Dev nD) (h : k0_dev3 c < nD) : (⟨k0_dev3 c, h⟩ : Dev nD) = peer c := Fin.ext (k0_dev3_eq c)

/-! ## Buffers and halves -/

/-- The packed row maxima of this device, and those that the peer sends. -/
abbrev accM : Memref sig .tc .vmem S16x128 .bf16 := Memref.whole cc0_scratch0
abbrev gotM : Memref sig .tc .vmem S16x128 .bf16 := Memref.whole cc0_scratch1

/-- The place where half `k` starts. -/
def start (k : Fin 2) : Fin 2 → ℕ := ![8 * k.val, 0]
theorem start_inb (k : Fin 2) : ∀ a, start k a + S8x128.size a ≤ S16x128.size a := by revert k; decide

/-- Half `k` of each. -/
abbrev accH (k : Fin 2) : Memref sig .tc .vmem S8x128 .bf16 :=
  accM.slice (Rect.unit (s := S16x128) (start k) S8x128.size (start_inb k)) (fun _ => rfl)
abbrev gotH (k : Fin 2) : Memref sig .tc .vmem S8x128 .bf16 :=
  gotM.slice (Rect.unit (s := S16x128) (start k) S8x128.size (start_inb k)) (fun _ => rfl)

/-- The halves as the kernel writes them. -/
theorem accH_zero : accM.slice (Rect.unit (s := S16x128) ![0, 0] S8x128.size inb_S16x128_S8x128_0_0) (fun _ => rfl) = accH 0 := rfl
theorem accH_one : accM.slice (Rect.unit (s := S16x128) ![8, 0] S8x128.size inb_S16x128_S8x128_8_0) (fun _ => rfl) = accH 1 := rfl
theorem gotH_zero : gotM.slice (Rect.unit (s := S16x128) ![0, 0] S8x128.size inb_S16x128_S8x128_0_0) (fun _ => rfl) = gotH 0 := rfl
theorem gotH_one : gotM.slice (Rect.unit (s := S16x128) ![8, 0] S8x128.size inb_S16x128_S8x128_8_0) (fun _ => rfl) = gotH 1 := rfl

/-- The places of half `k`. -/
def half (k : Fin 2) : Finset S16x128.Idx := Finset.univ.filter fun i => (i 0).val / 8 = k.val

theorem mem_half {k : Fin 2} {i : S16x128.Idx} : i ∈ half k ↔ (i 0).val / 8 = k.val := by
  unfold half; rw [Finset.mem_filter]; exact and_iff_right (Finset.mem_univ _)

/-- Every place lies in one half, no place in both. -/
theorem half_disjoint : Disjoint (half 0) (half 1) := by
  rw [Finset.disjoint_left]; intro i h0 h1
  rw [mem_half] at h0 h1; rw [h0] at h1; exact absurd h1 (by decide)
theorem half_union : half 0 ∪ half 1 = Finset.univ := by
  ext i
  simp only [Finset.mem_union, mem_half, Finset.mem_univ, iff_true, Fin.val_zero, Fin.val_one]
  have h : (i 0).val < 16 := idx2_lt0 i
  omega

/-- The eight rows that start at row `8 k` are half `k`. -/
theorem mem_rows (k : Fin 2) (off : Fin 2 → ℕ) (hoff : off = ![8 * k.val, 0]) (inb : ∀ a, off a + S8x128.size a ≤ S16x128.size a)
    (i : S16x128.Idx) : i ∈ (Rect.unit (s := S16x128) off S8x128.size inb).set ↔ i ∈ half k := by
  subst hoff
  rw [Rect.mem_set_unit, mem_half]
  have h0 : (i 0).val < 16 := idx2_lt0 i
  have h1 : (i 1).val < 128 := idx2_lt1 i
  constructor
  · intro h
    have := h 0
    simp [S8x128] at this
    omega
  · intro h a
    match a with
    | ⟨0, _⟩ => simp [S8x128]; omega
    | ⟨1, _⟩ => simp [S8x128]; omega

theorem acc_rows (k : Fin 2) (off : Fin 2 → ℕ) (hoff : off = ![8 * k.val, 0]) (inb : ∀ a, off a + S8x128.size a ≤ S16x128.size a) :
    (accM.access (Rect.unit (s := S16x128) off S8x128.size inb)).set = half k := by
  ext i
  show i ∈ ((View.whole cc0_scratch0).slice _).set ↔ _
  rw [View.set_slice_whole]
  exact mem_rows k off hoff inb i

theorem got_rows (k : Fin 2) (off : Fin 2 → ℕ) (hoff : off = ![8 * k.val, 0]) (inb : ∀ a, off a + S8x128.size a ≤ S16x128.size a) :
    (gotM.access (Rect.unit (s := S16x128) off S8x128.size inb)).set = half k := by
  ext i
  show i ∈ ((View.whole cc0_scratch1).slice _).set ↔ _
  rw [View.set_slice_whole]
  exact mem_rows k off hoff inb i

theorem accH_set (k : Fin 2) : (accH k).view.set = half k := acc_rows k _ rfl _
theorem gotH_set (k : Fin 2) : (gotH k).view.set = half k := got_rows k _ rfl _

/-! ## Contents -/

/-- The place of `i` within its half. -/
abbrev inHalf (i : S16x128.Idx) : S8x128.Idx := ix2 ⟨(i 0).val % 8, Nat.mod_lt _ (by decide)⟩ (i 1)

/-- A 16 × 128 array from its two halves. -/
def joined (u : Fin 2 → Vec F S8x128 .bf16) : Vec F S16x128 .bf16 := fun i =>
  u ⟨(i 0).val / 8, by have h : (i 0).val < 16 := idx2_lt0 i; omega⟩ (inHalf i)

/-- The place that half `k` gives its own place of `i` is `i`. -/
theorem rows_emb (k : Fin 2) (off : Fin 2 → ℕ) (hoff : off = ![8 * k.val, 0]) (inb : ∀ a, off a + S8x128.size a ≤ S16x128.size a)
    {i : S16x128.Idx} (hi : i ∈ half k) : (Rect.unit (s := S16x128) off S8x128.size inb).emb (inHalf i) = i := by
  subst hoff
  rw [mem_half] at hi
  funext a
  apply Fin.ext
  match a with
  | ⟨0, _⟩ => show 8 * k.val + 1 * ((i 0).val % 8) = (i 0).val; omega
  | ⟨1, _⟩ => show 0 + 1 * (i 1).val = (i 1).val; omega

/-- Storing `w` over the rows of half `k` leaves `w` there. -/
theorem acc_stored (k : Fin 2) (off : Fin 2 → ℕ) (hoff : off = ![8 * k.val, 0]) (inb : ∀ a, off a + S8x128.size a ≤ S16x128.size a)
    (f : Vec F S16x128 .bf16) (u : Fin 2 → Vec F S8x128 .bf16) {i : S16x128.Idx} (hi : i ∈ half k) :
    (accM.access (Rect.unit (s := S16x128) off S8x128.size inb)).write (Elt F) f (u k) Finset.univ i = joined u i := by
  have e := rows_emb k off hoff inb hi
  conv_lhs => rw [← e]
  rw [show (Rect.unit (s := S16x128) off S8x128.size inb).emb (inHalf i)
      = (accM.access (Rect.unit (s := S16x128) off S8x128.size inb)).emb (inHalf i) from rfl,
    View.write_emb_of_mem _ _ (Finset.mem_univ _)]
  show u k (inHalf i) = joined u i
  unfold joined
  rw [mem_half] at hi
  exact congrArg (fun q => u q (inHalf i)) (Fin.ext hi.symm)

theorem landed_rows (k : Fin 2) (off : Fin 2 → ℕ) (hoff : off = ![8 * k.val, 0]) (inb : ∀ a, off a + S8x128.size a ≤ S16x128.size a)
    (fd fs : Vec F S16x128 .bf16) {i : S16x128.Idx} (hi : i ∈ half k) :
    (gotM.access (Rect.unit (s := S16x128) off S8x128.size inb)).write (Elt F) fd
      ((accM.access (Rect.unit (s := S16x128) off S8x128.size inb)).read (Elt F) fs) Finset.univ i = fs i := by
  have e := rows_emb k off hoff inb hi
  conv_lhs => rw [← e]
  rw [show (Rect.unit (s := S16x128) off S8x128.size inb).emb (inHalf i)
      = (gotM.access (Rect.unit (s := S16x128) off S8x128.size inb)).emb (inHalf i) from rfl,
    View.write_emb_of_mem _ _ (Finset.mem_univ _)]
  show fs ((Rect.unit (s := S16x128) off S8x128.size inb).emb (inHalf i)) = fs i
  rw [e]

/-- A copy of half `k` out of contents `fs` lands what `fs` holds there. -/
theorem landed_half (k : Fin 2) (fd fs : Vec F S16x128 .bf16) (i : S16x128.Idx) (hi : i ∈ half k) :
    (gotH k).view.write (Elt F) fd ((accH k).view.read (Elt F) fs) Finset.univ i = fs i :=
  landed_rows k _ rfl _ fd fs hi

/-! ## The row maxima of one block -/

/-- Columns `off 1` to `off 1 + 127` of a 1024 × 1024 block. -/
abbrev cols (off : Fin 2 → ℕ) (inb : ∀ a, off a + S1024x128.size a ≤ S1024x1024.size a) (X : Vec F S1024x1024 .bf16) : Vec F S1024x128 .bf16 :=
  fun p => X ((Rect.unit (s := S1024x1024) off S1024x128.size inb).emb p)

/-- The 1024 row maxima of a 1024 × 1024 block, packed 8 × 128. -/
def packedMax (X : Vec F S1024x1024 .bf16) : Vec F S8x128 .bf16 :=
  k0_pay1 (k0_pay3 (cols ![0, 0] inb_S1024x1024_S1024x128_0_0 X) (cols ![0, 128] inb_S1024x1024_S1024x128_0_128 X)
    (cols ![0, 256] inb_S1024x1024_S1024x128_0_256 X) (cols ![0, 384] inb_S1024x1024_S1024x128_0_384 X)
    (cols ![0, 512] inb_S1024x1024_S1024x128_0_512 X) (cols ![0, 640] inb_S1024x1024_S1024x128_0_640 X)
    (cols ![0, 768] inb_S1024x1024_S1024x128_0_768 X) (cols ![0, 896] inb_S1024x1024_S1024x128_0_896 X))

theorem packedMax_eq (X : Vec F S1024x1024 .bf16) :
    k0_pay1 (k0_pay3 (cols ![0, 0] inb_S1024x1024_S1024x128_0_0 X) (cols ![0, 128] inb_S1024x1024_S1024x128_0_128 X)
      (cols ![0, 256] inb_S1024x1024_S1024x128_0_256 X) (cols ![0, 384] inb_S1024x1024_S1024x128_0_384 X)
      (cols ![0, 512] inb_S1024x1024_S1024x128_0_512 X) (cols ![0, 640] inb_S1024x1024_S1024x128_0_640 X)
      (cols ![0, 768] inb_S1024x1024_S1024x128_0_768 X) (cols ![0, 896] inb_S1024x1024_S1024x128_0_896 X)) = packedMax X := rfl

variable (m : (ℓ : Loc nD τ sig) → Buf (Elt F) ℓ)

/-- The block of device `c`'s matrix that grid point `k` stages: rows `1024 k` to `1024 k + 1023`. -/
def xblk (c : Dev nD) (k : Fin grid0.N) : Vec F S1024x1024 .bf16 :=
  (win0_0.blk k).view.read (Elt F) (m ((c : Thread nD τ).loc main_arg0))

/-- The grid point of a half. -/
abbrev pt : Fin 2 → Fin grid0.N
  | 0 => t0_0
  | 1 => t0_1

/-- Device `c`'s packed row maxima. -/
def own (c : Dev nD) : Vec F S16x128 .bf16 := joined fun k => packedMax (xblk m c (pt k))

/-- Its result: the larger of its own and the peer's, place by place. -/
def result (c : Dev nD) : Vec F S16x128 .bf16 := k0_pay2 (own m c) (own m (peer c))

end Cert.RowMax

end
-- ==== Proof.Protocol.lean ====
/-
# The exchange between the two devices of a mesh row

Each device has five semaphores that the other one or itself pays into once: the barrier, one send and one receive
semaphore for each half. The barrier's unit carries the peer's landing buffer and the news that the peer's receive
semaphores are ready; a receive semaphore's credit carries the landed half; a send semaphore's credit gives the source
half back. This module states that schedule, what each device owes, the order in which waits are allowed, and what a
device holds before, between and after its two grid points.
-/
module

public import proofs.«01_k».proof.Proof.Halves
public import Idealize.ShloMosaic.Lib.Rounds
public import Idealize.ShloMosaic.Lib.Pipeline.Kit
public import Idealize.ShloMosaic.Lib.Tactic

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- One copy of the ghost state for the staging of blocks, one for the exchange. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## Semaphores and cells -/

abbrev barS : Sem sig := (SemArray.scalar (sig.barrier 0 rfl) : Sems sig S_).sem
abbrev sendS : Fin 2 → DmaSem sig
  | 0 => ((cc0_scratch2.slice (Rect.unit (s := S2) ![0] S1.size inb_S2_S1_0)).squeeze S_ squeezes_S1_S_).sem
  | 1 => ((cc0_scratch2.slice (Rect.unit (s := S2) ![1] S1.size inb_S2_S1_1)).squeeze S_ squeezes_S1_S_).sem
abbrev recvS : Fin 2 → DmaSem sig
  | 0 => ((cc0_scratch3.slice (Rect.unit (s := S2) ![0] S1.size inb_S2_S1_0)).squeeze S_ squeezes_S1_S_).sem
  | 1 => ((cc0_scratch3.slice (Rect.unit (s := S2) ![1] S1.size inb_S2_S1_1)).squeeze S_ squeezes_S1_S_).sem

theorem send_ne_bar (k : Fin 2) : (SemLoc.dma (sendS k) : SemLoc sig) ≠ .reg barS := fun h => by cases h
theorem recv_ne_bar (k : Fin 2) : (SemLoc.dma (recvS k) : SemLoc sig) ≠ .reg barS := fun h => by cases h
theorem send_ne_recv (j k : Fin 2) : (SemLoc.dma (sendS j) : SemLoc sig) ≠ .dma (recvS k) := by revert j k; decide

abbrev barCell (c : Dev nD) : GSem nD τ sig := ((c : Thread nD τ), .reg barS)
abbrev sendCell (c : Dev nD) (k : Fin 2) : GSem nD τ sig := ((c : Thread nD τ), .dma (sendS k))
abbrev recvCell (c : Dev nD) (k : Fin 2) : GSem nD τ sig := ((c : Thread nD τ), .dma (recvS k))

/-- The credit of a half. -/
abbrev N : ℕ := (gotH 0).view.dmaCredit
theorem N_pos : 0 < N := View.dmaCredit_pos _ (by decide)

/-! ## Ownership of a half -/

abbrev accPart (c : Dev nD) (k : Fin 2) (f : Vec F S16x128 .bf16) : sProp 𝕄 :=
  (((c : Thread nD τ).loc cc0_scratch0) ↦[half k]{fullShare} f)
abbrev gotPart (c : Dev nD) (k : Fin 2) (f : Vec F S16x128 .bf16) : sProp 𝕄 :=
  (((c : Thread nD τ).loc cc0_scratch1) ↦[half k]{fullShare} f)
abbrev accAll (c : Dev nD) (f : Vec F S16x128 .bf16) : sProp 𝕄 := (((c : Thread nD τ).loc cc0_scratch0) ↦{fullShare} f)
abbrev gotAll (c : Dev nD) (f : Vec F S16x128 .bf16) : sProp 𝕄 := (((c : Thread nD τ).loc cc0_scratch1) ↦{fullShare} f)

omit [FloatOps F] in
theorem acc_split (c : Dev nD) (f : Vec F S16x128 .bf16) :
    (accAll c f : sProp 𝕄) ⊣⊢ iprop(accPart c 0 f ∗ accPart c 1 f) := by
  unfold accAll accPart; rw [← half_union]
  exact pointsTo_union (ℓ := (c : Thread nD τ).loc cc0_scratch0) (I := half 0) (J := half 1) half_disjoint
omit [FloatOps F] in
theorem got_split (c : Dev nD) (f : Vec F S16x128 .bf16) :
    (gotAll c f : sProp 𝕄) ⊣⊢ iprop(gotPart c 0 f ∗ gotPart c 1 f) := by
  unfold gotAll gotPart; rw [← half_union]
  exact pointsTo_union (ℓ := (c : Thread nD τ).loc cc0_scratch1) (I := half 0) (J := half 1) half_disjoint

/-! ## The schedule -/

/-- The peer's landing buffer, and that its receive semaphores are ready. -/
def barPay (c : Dev nD) : sProp 𝕄 :=
  iprop((∃ f, gotAll (peer c) f) ∗ reached ER (recvCell (peer c) 0) 0 ∗ reached ER (recvCell (peer c) 1) 0)
/-- Half `k` of the landing buffer, holding the peer's maxima. -/
def recvPay (c : Dev nD) (k : Fin 2) : sProp 𝕄 := gotPart c k (own m (peer c))
/-- Half `k` of the device's own maxima. -/
def sendPay (c : Dev nD) (k : Fin 2) : sProp 𝕄 := accPart c k (own m c)

abbrev IsCell (g : GSem nD τ sig) : Prop :=
  g.1.2 = .tc ∧ (g.2 = .reg barS ∨ (∃ k, g.2 = .dma (sendS k)) ∨ ∃ k, g.2 = .dma (recvS k))

/-- One round, one duty on each cell. -/
def rd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma (recvS 0) then recvPay m g.1.1 0
    else if g.2 = .dma (recvS 1) then recvPay m g.1.1 1
    else if g.2 = .dma (sendS 0) then sendPay m g.1.1 0
    else if g.2 = .dma (sendS 1) then sendPay m g.1.1 1
    else iprop(emp)
  amount_pos g _ _ _ := by
    by_cases h : g.2 = .reg barS
    · rw [if_pos h]; exact Nat.one_pos
    · rw [if_neg h]; exact N_pos

instance rd_payload_storable (g : GSem nD τ sig) (r : ℕ) (d : Unit) :
    BI.Storable (upEmb : UEmb _ 𝕄) ((rd (F := F) m).payload g r d) := by
  show BI.Storable upEmb (if g.2 = .reg barS then barPay g.1.1 else if g.2 = .dma (recvS 0) then recvPay m g.1.1 0
    else if g.2 = .dma (recvS 1) then recvPay m g.1.1 1 else if g.2 = .dma (sendS 0) then sendPay m g.1.1 0
    else if g.2 = .dma (sendS 1) then sendPay m g.1.1 1 else iprop(emp))
  unfold barPay recvPay sendPay
  (repeat' split) <;> infer_instance

section Tables

variable (c : Dev nD) (k : Fin 2)

theorem duties_bar : (rd (F := F) m).duties (barCell c) 0 = {()} := by dsimp only [rd]; exact if_pos ⟨rfl, rfl, .inl rfl⟩
theorem duties_send : (rd (F := F) m).duties (sendCell c k) 0 = {()} := by
  dsimp only [rd]; exact if_pos ⟨rfl, rfl, .inr (.inl ⟨k, rfl⟩)⟩
theorem duties_recv : (rd (F := F) m).duties (recvCell c k) 0 = {()} := by
  dsimp only [rd]; exact if_pos ⟨rfl, rfl, .inr (.inr ⟨k, rfl⟩)⟩
theorem duties_later (g : GSem nD τ sig) : ∀ r, 1 ≤ r → (rd (F := F) m).duties g r = ∅ :=
  fun r hr => by dsimp only [rd]; exact if_neg fun h => by omega

theorem amount_bar (u : Unit) : (rd (F := F) m).amount (barCell c) 0 u = 1 := by dsimp only [rd]; exact if_pos rfl
theorem amount_send (u : Unit) : (rd (F := F) m).amount (sendCell c k) 0 u = N := by
  dsimp only [rd]; exact if_neg (send_ne_bar k)
theorem amount_recv (u : Unit) : (rd (F := F) m).amount (recvCell c k) 0 u = N := by
  dsimp only [rd]; exact if_neg (recv_ne_bar k)

theorem expect_bar : (rd (F := F) m).expect (barCell c) 0 = 1 := by
  unfold Schedule.expect Schedule.amountOf; rw [duties_bar, Finset.sum_singleton, amount_bar]
theorem expect_send : (rd (F := F) m).expect (sendCell c k) 0 = N := by
  unfold Schedule.expect Schedule.amountOf; rw [duties_send, Finset.sum_singleton, amount_send]
theorem expect_recv : (rd (F := F) m).expect (recvCell c k) 0 = N := by
  unfold Schedule.expect Schedule.amountOf; rw [duties_recv, Finset.sum_singleton, amount_recv]

theorem payload_bar (u : Unit) : (rd (F := F) m).payload (barCell c) 0 u = barPay c := by dsimp only [rd]; exact if_pos rfl
theorem payload_recv (u : Unit) : (rd (F := F) m).payload (recvCell c k) 0 u = recvPay m c k := by
  dsimp only [rd]
  rw [if_neg (recv_ne_bar k)]
  match k with
  | 0 => rw [if_pos rfl]
  | 1 => rw [if_neg (by decide), if_pos rfl]
theorem payload_send (u : Unit) : (rd (F := F) m).payload (sendCell c k) 0 u = sendPay m c k := by
  dsimp only [rd]
  rw [if_neg (send_ne_bar k), if_neg (send_ne_recv k 0), if_neg (send_ne_recv k 1)]
  match k with
  | 0 => rw [if_pos rfl]
  | 1 => rw [if_neg (by decide), if_pos rfl]

theorem rest_bar : bigSep ((rd (F := F) m).duties (barCell c) 0 \ ∅) (fun u => (rd (F := F) m).payload (barCell c) 0 u) = barPay c := by
  rw [Finset.sdiff_empty, duties_bar, bigSep_singleton, payload_bar]
theorem rest_send : bigSep ((rd (F := F) m).duties (sendCell c k) 0 \ ∅) (fun u => (rd (F := F) m).payload (sendCell c k) 0 u)
    = sendPay m c k := by
  rw [Finset.sdiff_empty, duties_send, bigSep_singleton, payload_send]
theorem rest_recv : bigSep ((rd (F := F) m).duties (recvCell c k) 0 \ ∅) (fun u => (rd (F := F) m).payload (recvCell c k) 0 u)
    = recvPay m c k := by
  rw [Finset.sdiff_empty, duties_recv, bigSep_singleton, payload_recv]

end Tables

/-! ## What a device owes; the order of waits -/

/-- After its signal a device owes the peer the credit of both halves, after its first copy that of the second. -/
def O₂ (c : Dev nD) : CellTallies nD τ sig Unit := tallyAt (recvCell (peer c) 1) () N
def O₁ (c : Dev nD) : CellTallies nD τ sig Unit := O₂ c + tallyAt (recvCell (peer c) 0) () N
def O₀ (c : Dev nD) : CellTallies nD τ sig Unit := O₁ c + tallyAt (barCell (peer c)) () 1

def L (g : GSem nD τ sig) : Finset Unit := if g.1.2 = .tc then {()} else ∅
/-- Staging and send semaphores first, the barrier second, the receive semaphores last. -/
def lv (g : GSem nD τ sig) (_ : Unit) : ℕ :=
  if g.2 = .reg barS then 1 else if g.2 = .dma (recvS 0) ∨ g.2 = .dma (recvS 1) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (k : Fin 2) (u : Unit) : lv (recvCell c k) u = 2 := by
  unfold lv; rw [if_neg (recv_ne_bar k)]
  match k with
  | 0 => exact if_pos (.inl rfl)
  | 1 => exact if_pos (.inr rfl)

theorem O₂_pos {c : Dev nD} {g : GSem nD τ sig} {u : Unit} (h : 0 < O₂ c g u) : ∃ k, g = recvCell (peer c) k := by
  unfold O₂ at h
  rw [tallyAt_apply] at h
  by_cases hg : g = recvCell (peer c) 1 ∧ u = ()
  · exact ⟨1, hg.1⟩
  · rw [if_neg hg] at h; exact absurd h (Nat.lt_irrefl 0)
theorem O₁_pos {c : Dev nD} {g : GSem nD τ sig} {u : Unit} (h : 0 < O₁ c g u) : ∃ k, g = recvCell (peer c) k := by
  unfold O₁ at h
  rw [Pi.add_apply, Finsupp.add_apply, tallyAt_apply] at h
  by_cases hg : g = recvCell (peer c) 0 ∧ u = ()
  · exact ⟨0, hg.1⟩
  · rw [if_neg hg, Nat.add_zero] at h; exact O₂_pos h
theorem O₀_pos {c : Dev nD} {g : GSem nD τ sig} {u : Unit} (h : 0 < O₀ c g u) :
    g = barCell (peer c) ∨ ∃ k, g = recvCell (peer c) k := by
  unfold O₀ at h
  rw [Pi.add_apply, Finsupp.add_apply, tallyAt_apply] at h
  by_cases hg : g = barCell (peer c) ∧ u = ()
  · exact .inl hg.1
  · rw [if_neg hg, Nat.add_zero] at h; exact .inr (O₁_pos h)

/-- The barrier may be waited on while the two copies are still owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; rw [L_tc]; exact Finset.mem_singleton_self _)
    (fun p hp => by rw [Finset.mem_singleton.mp hp, lv_bar])
    (fun g u hg => by obtain ⟨k, rfl⟩ := O₁_pos hg; rw [lv_recv]; decide)

/-! ## What a device holds -/

/-- The cells that device `c` uses: its own five, and the peer's three that it pays into. -/
def invs (K : GSem nD τ sig → ℕ) (c : Dev nD) : sProp 𝕄 :=
  iprop(cellInv ER (rd m) (K (barCell c)) (barCell c)
    ∗ cellInv ER (rd m) (K (sendCell c 0)) (sendCell c 0) ∗ cellInv ER (rd m) (K (sendCell c 1)) (sendCell c 1)
    ∗ cellInv ER (rd m) (K (recvCell c 0)) (recvCell c 0) ∗ cellInv ER (rd m) (K (recvCell c 1)) (recvCell c 1)
    ∗ cellInv ER (rd m) (K (barCell (peer c))) (barCell (peer c))
    ∗ cellInv ER (rd m) (K (recvCell (peer c) 0)) (recvCell (peer c) 0)
    ∗ cellInv ER (rd m) (K (recvCell (peer c) 1)) (recvCell (peer c) 1))

instance invs_persistent (K : GSem nD τ sig → ℕ) (c : Dev nD) : BI.Persistent (invs m K c) := by unfold invs; infer_instance

/-- The duties that device `c` pays. -/
def payToks (c : Dev nD) : sProp 𝕄 :=
  iprop(dutyTok ER (barCell (peer c)) 0 () ∗ dutyTok ER (recvCell (peer c) 0) 0 () ∗ dutyTok ER (recvCell (peer c) 1) 0 ()
    ∗ dutyTok ER (sendCell c 0) 0 () ∗ dutyTok ER (sendCell c 1) 0 ())

/-- The units that device `c` waits for. -/
def waitCreds (c : Dev nD) : sProp 𝕄 :=
  iprop(cred (tallyAt (barCell c) () 1) ∗ cred (tallyAt (recvCell c 0) () N) ∗ cred (tallyAt (recvCell c 1) () N))

/-- From the launch until the kernel starts: the copies' semaphores are not yet open. -/
def ghost (K : GSem nD τ sig → ℕ) (c : Dev nD) : sProp 𝕄 :=
  iprop(invs m K c ∗ atPos ER (barCell c) 0 ∅ 0
    ∗ (openTok ER (sendCell c 0) ∗ openTok ER (sendCell c 1) ∗ openTok ER (recvCell c 0) ∗ openTok ER (recvCell c 1))
    ∗ reached ER (barCell (peer c)) 0 ∗ payToks c)

def start₀ (c : Dev nD) : sProp 𝕄 := iprop((∃ K, ghost m K c) ∗ waitCreds c)

/-- Once they are open. -/
def opened (K : GSem nD τ sig → ℕ) (c : Dev nD) : sProp 𝕄 :=
  iprop(invs m K c ∗ atPos ER (barCell c) 0 ∅ 0
    ∗ (atPos ER (sendCell c 0) 0 ∅ 0 ∗ atPos ER (sendCell c 1) 0 ∅ 0 ∗ atPos ER (recvCell c 0) 0 ∅ 0 ∗ atPos ER (recvCell c 1) 0 ∅ 0)
    ∗ (reached ER (sendCell c 0) 0 ∗ reached ER (sendCell c 1) 0 ∗ reached ER (recvCell c 0) 0 ∗ reached ER (recvCell c 1) 0)
    ∗ reached ER (barCell (peer c)) 0 ∗ payToks c)

/-- What the kernel is entered with, beside its scratch buffers. -/
def entry (c : Dev nD) : sProp 𝕄 := iprop((∃ K, opened m K c) ∗ waitCreds c ∗ levAts L lv)

def scratch (c : Dev nD) : sProp 𝕄 := iprop((∃ f, accAll c f) ∗ (∃ f, gotAll c f) ∗ ∃ r, prngReg c r)

/-- Before the first grid point. -/
def Φ₀ (c : Dev nD) : sProp 𝕄 := iprop(entry m c ∗ scratch c)

/-- Between the two: the first half is on its way, the second halves of the own buffer and of the peer's landing buffer
    are in hand. -/
def Φ₁ (c : Dev nD) : sProp 𝕄 :=
  iprop((∃ K, invs m K c ∗ semVal (barCell c) 0
      ∗ (atPos ER (sendCell c 0) 0 ∅ 0 ∗ atPos ER (sendCell c 1) 0 ∅ 0 ∗ atPos ER (recvCell c 0) 0 ∅ 0 ∗ atPos ER (recvCell c 1) 0 ∅ 0)
      ∗ (reached ER (sendCell c 1) 0 ∗ reached ER (recvCell (peer c) 1) 0)
      ∗ dutyTok ER (recvCell (peer c) 1) 0 () ∗ dutyTok ER (sendCell c 1) 0 ())
    ∗ (cred (tallyAt (sendCell c 0) () N) ∗ cred (tallyAt (recvCell c 0) () N) ∗ cred (tallyAt (recvCell c 1) () N))
    ∗ (∃ f, accPart c 1 f) ∗ (∃ f, gotPart (peer c) 1 f) ∗ ∃ r, prngReg c r)

/-- The five semaphores at zero. -/
def quiet (c : Dev nD) : sProp 𝕄 :=
  iprop(semVal (barCell c) 0 ∗ semVal (sendCell c 0) 0 ∗ semVal (sendCell c 1) 0 ∗ semVal (recvCell c 0) 0 ∗ semVal (recvCell c 1) 0)

/-- After the last grid point. -/
def Φ₂ (c : Dev nD) : sProp 𝕄 := iprop(quiet c ∗ scratch c)

theorem close (κ : ℕ) (g : GSem nD τ sig) :
    iprop(cellInv ER (rd m) κ g ∗ atPos ER g (0 + 1) ∅ 0) ⊢ (|={Set.univ}=> semVal g 0 : sProp 𝕄) :=
  Rounds.cell_close ER (rd m) (Set.mem_univ κ) id (duties_later m g)

abbrev 𝒱₀ : Variants := Variants.none

end Cert.RowMax

end
-- ==== Proof.Body.lean ====
/-
# The kernel's body at its two grid points

At the first point a device signals its peer, takes the row maxima of its first block, waits for the peer's signal and
starts the copy of the upper half. At the second it takes the maxima of its second block, starts the copy of the lower
half, waits for the four copies to and from it, and stores the larger of its own and the peer's maxima.
-/
module

public import proofs.«01_k».proof.Proof.Protocol

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Halves through the copies' views -/

omit [FloatOps F] in
theorem accPart_eq (c : Dev nD) (k : Fin 2) (f : Vec F S16x128 .bf16) :
    (accPart c k f : sProp 𝕄) = ((accH k).view.loc (c : Thread nD τ) ↦[(accH k).view.set]{fullShare} f) := by
  unfold accPart; rw [accH_set]
omit [FloatOps F] in
theorem gotPart_eq (c : Dev nD) (k : Fin 2) (f : Vec F S16x128 .bf16) :
    (gotPart c k f : sProp 𝕄) = ((gotH k).view.loc (c : Thread nD τ) ↦[(gotH k).view.set]{fullShare} f) := by
  unfold gotPart; rw [gotH_set]

/-- The copy of half `k` of `f` leaves `f` on that half of the landing buffer. -/
theorem got_landed (c : Dev nD) (k : Fin 2) (fd f : Vec F S16x128 .bf16) :
    ((gotH k).view.loc (c : Thread nD τ) ↦[(gotH k).view.set]{fullShare}
        ((gotH k).view.write (Elt F) fd ((accH k).view.read (Elt F) f) Finset.univ) : sProp 𝕄)
      = gotPart c k f := by
  rw [gotPart_eq]
  refine pointsTo_congr fun i hi => ?_
  have hi' : i ∈ (gotH k).view.set := hi
  rw [gotH_set] at hi'
  exact landed_half k fd f i hi'

/-- The store of a block's maxima leaves the device's maxima on its half. -/
theorem acc_kept (c : Dev nD) (k : Fin 2) (off : Fin 2 → ℕ) (hoff : off = ![8 * k.val, 0])
    (inb : ∀ a, off a + S8x128.size a ≤ S16x128.size a) (f : Vec F S16x128 .bf16) :
    ((accM.access (Rect.unit (s := S16x128) off S8x128.size inb)).loc (c : Thread nD τ) ↦[half k]{fullShare}
        ((accM.access (Rect.unit (s := S16x128) off S8x128.size inb)).write (Elt F) f (packedMax (xblk m c (pt k))) Finset.univ) : sProp 𝕄)
      = accPart c k (own m c) := by
  refine pointsTo_congr fun i hi => ?_
  exact acc_stored k off hoff inb f (fun k => packedMax (xblk m c (pt k))) hi

theorem credit_eq (k : Fin 2) : (gotH k).view.dmaCredit = N := rfl

/-- The copy of half `k` to the peer. -/
theorem wp_send_half (K : GSem nD τ sig → ℕ) (c n : Dev nD) (hn : n = peer c) (k : Fin 2)
    {src dst : Memref sig .tc .vmem S8x128 .bf16} (hs : src = accH k) (hd : dst = gotH k)
    {sS sR : DmaSem sig} (hsS : sS = sendS k) (hsR : sR = recvS k)
    {hsc : (dst : Memref sig (Dev.tc n : Thread nD τ).2.kind .vmem S8x128 .bf16).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {kt : PUnit → Prog (TpuEff nD τ sig (Elt F) Λ₀ .tc) α}
    (fn : Vec F S16x128 .bf16) (O' O : CellTallies nD τ sig Unit) (hO : O' = O + tallyAt (recvCell (peer c) k) () N) (W : Waits sig Unit) :
    iprop(cellInv ER (rd m) (K (sendCell c k)) (sendCell c k) ∗ cellInv ER (rd m) (K (recvCell (peer c) k)) (recvCell (peer c) k)
        ∗ accPart c k (own m c) ∗ gotPart (peer c) k fn ∗ owes (c : Thread nD τ) O' W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) O W)
            -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kt) Q) := by
  subst hn hs hd hsS hsR
  rw [accPart_eq, gotPart_eq]
  exact Rounds.wp_send_pointsTo 𝒱₀ ER (rd m) (c : Thread nD τ) none (c' := (peer c : Thread nD τ)) (src := accH k) (dst := gotH k)
    (sS := .dma (sendS k)) (sem := .dma (recvS k)) (κ₁ := K (sendCell c k)) (κ₂ := K (recvCell (peer c) k))
    (r₁ := 0) (r₂ := 0) (d₁ := ()) (d₂ := ()) (fd := fn) (fs := own m c)
    (by rw [duties_send]; exact Finset.mem_singleton_self _) (by rw [duties_recv]; exact Finset.mem_singleton_self _)
    () () N (show (gotH k).view.amount (.dma (recvS k)) = N from credit_eq k) (amount_send m c k ()) (amount_recv m (peer c) k ()) O hO (W := W)
    (by rw [payload_send]; unfold sendPay; rw [accPart_eq])
    (by rw [payload_recv]; unfold recvPay; rw [got_landed, peer_peer])

theorem credit_eq' (k : Fin 2) : (accH k).view.dmaCredit = N := rfl

/-- The wait for the copy of half `k` to have left: the half comes back. -/
theorem wp_wait_sent (K : GSem nD τ sig → ℕ) (c : Dev nD) (k : Fin 2) {src dst : Memref sig .tc .vmem S8x128 .bf16} (hd : dst = accH k)
    {s : DmaSem sig} (hs : s = sendS k) {hsrc : src.view.WordExact} {hdst : dst.view.WordExact}
    {α : Type} {Q : α → sProp 𝕄} {kt : PUnit → Prog (TpuEff nD τ sig (Elt F) Λ₀ .tc) α} (W : Waits sig Unit) :
    iprop(cellInv ER (rd m) (K (sendCell c k)) (sendCell c k) ∗ cred (tallyAt (sendCell c k) () N)
        ∗ owes (c : Thread nD τ) (0 : CellTallies nD τ sig Unit) W ∗ atPos ER (sendCell c k) 0 ∅ 0)
      ⊢ iprop(((owes (c : Thread nD τ) (0 : CellTallies nD τ sig Unit) (insert (SemLoc.dma (sendS k), ()) W)
              ∗ atPos ER (sendCell c k) (0 + 1) ∅ 0 ∗ accPart c k (own m c))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src dst hsrc hdst) kt) Q) := by
  subst hd hs
  iintro ⟨#HI, Hc, HO, Hat⟩ Hk
  iapply (Rounds.wp_wait_rest_token 𝒱₀ ER (rd m) (c : Thread nD τ) none (κ := K (sendCell c k))
      (wpE_waitDma2_eq (src := src) (dst := accH k) 𝒱₀ (c : Thread nD τ) none Set.univ) (Set.mem_univ _) () (O := 0) (W := W) (R := 0) (m := 0) (T := ∅)
      (by rw [credit_eq', Nat.zero_add, expect_send])) $$ [Hc HO Hat]
  · isplitr; · iexact HI
    isplitl [Hc]; · rw [credit_eq']; iexact Hc
    isplitl [HO]; · iexact HO
    isplitr; · rw [MayWait_zero]; iempintro
    iexact Hat
  iintro ⟨HO, Hat, -, Hpay⟩
  ihave Hp := (Entails.of_eq ((rest_send m c k).trans (by unfold sendPay; rfl))) $$ Hpay
  iapply Hk
  isplitl [HO]; · iexact HO
  isplitl [Hat]; · iexact Hat
  iexact Hp

/-- The wait for the peer's half `k`: it comes with the peer's maxima. -/
theorem wp_wait_got (K : GSem nD τ sig → ℕ) (c : Dev nD) (k : Fin 2) {src dst : Memref sig .tc .vmem S8x128 .bf16} (hd : dst = gotH k)
    {s : DmaSem sig} (hs : s = recvS k) {hsrc : src.view.WordExact} {hdst : dst.view.WordExact}
    {α : Type} {Q : α → sProp 𝕄} {kt : PUnit → Prog (TpuEff nD τ sig (Elt F) Λ₀ .tc) α} (W : Waits sig Unit) :
    iprop(cellInv ER (rd m) (K (recvCell c k)) (recvCell c k) ∗ cred (tallyAt (recvCell c k) () N)
        ∗ owes (c : Thread nD τ) (0 : CellTallies nD τ sig Unit) W ∗ atPos ER (recvCell c k) 0 ∅ 0)
      ⊢ iprop(((owes (c : Thread nD τ) (0 : CellTallies nD τ sig Unit) (insert (SemLoc.dma (recvS k), ()) W)
              ∗ atPos ER (recvCell c k) (0 + 1) ∅ 0 ∗ gotPart c k (own m (peer c)))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 s src dst hsrc hdst) kt) Q) := by
  subst hd hs
  iintro ⟨#HI, Hc, HO, Hat⟩ Hk
  iapply (Rounds.wp_wait_rest_token 𝒱₀ ER (rd m) (c : Thread nD τ) none (κ := K (recvCell c k))
      (wpE_waitDma2_eq (src := src) (dst := gotH k) 𝒱₀ (c : Thread nD τ) none Set.univ) (Set.mem_univ _) () (O := 0) (W := W) (R := 0) (m := 0) (T := ∅)
      (by rw [credit_eq, Nat.zero_add, expect_recv])) $$ [Hc HO Hat]
  · isplitr; · iexact HI
    isplitl [Hc]; · rw [credit_eq]; iexact Hc
    isplitl [HO]; · iexact HO
    isplitr; · rw [MayWait_zero]; iempintro
    iexact Hat
  iintro ⟨HO, Hat, -, Hpay⟩
  ihave Hp := (Entails.of_eq ((rest_recv m c k).trans (by unfold recvPay; rfl))) $$ Hpay
  iapply Hk
  isplitl [HO]; · iexact HO
  isplitl [Hat]; · iexact Hat
  iexact Hp

/-! ## The first grid point -/

abbrev x0 (c : Dev nD) (X : Vec F S1024x1024 .bf16) : sProp 𝕄 := (((c : Thread nD τ).loc cc0_stg0_0) ↦{fullShare} X)
abbrev x1 (c : Dev nD) (X : Vec F S1024x1024 .bf16) : sProp 𝕄 := (((c : Thread nD τ).loc cc0_stg0_1) ↦{fullShare} X)
abbrev out (c : Dev nD) (f : Vec F S16x128 .bf16) : sProp 𝕄 := (((c : Thread nD τ).loc cc0_stg1_0) ↦{fullShare} f)

/-- A strip of columns, read out of either staging buffer. -/
theorem read_strip0 (off : Fin 2 → ℕ) (inb : ∀ a, off a + S1024x128.size a ≤ S1024x1024.size a) (X : Vec F S1024x1024 .bf16) :
    (Memref.whole cc0_stg0_0).view.readAt (Elt F) (Rect.unit (s := S1024x1024) off S1024x128.size inb).toLoadRect X = cols off inb X := rfl
theorem read_strip1 (off : Fin 2 → ℕ) (inb : ∀ a, off a + S1024x128.size a ≤ S1024x1024.size a) (X : Vec F S1024x1024 .bf16) :
    (Memref.whole cc0_stg0_1).view.readAt (Elt F) (Rect.unit (s := S1024x1024) off S1024x128.size inb).toLoadRect X = cols off inb X := rfl

set_option maxHeartbeats 800000 in
theorem first_point (c : Dev nD) (W : Waits sig Unit) (Kt : PUnit → sProp 𝕄) :
    iprop((Φ₀ m c ∗ owes (c : Thread nD τ) (O₀ c) W ∗ x0 c (xblk m c t0_0))
        ∗ ((Φ₁ m c ∗ (∃ W', owes (c : Thread nD τ) (O₂ c) W') ∗ x0 c (xblk m c t0_0)) -∗ Kt ⟨⟩))
      ⊢ wp frame (wpE (defs₀ (F := F)) 𝒱₀ c none) Set.univ
          (cc0_body (grid0.coords t0_0) (Memref.whole cc0_stg0_0) (Memref.isWhole_whole _) (Memref.whole cc0_stg1_0) (Memref.isWhole_whole _)
            accM (Memref.isWhole_whole _) gotM (Memref.isWhole_whole _) cc0_scratch2 cc0_scratch3) Kt := by
  simp only [cc0_body_eq_skeleton]; unfold cc0_body_skel
  simp only [k0_part2_eq_skeleton]; unfold k0_part2_skel
  simp only [semSignalWord, semWaitWord, Prog.lift, Prog.bind_op, Prog.bind_ret, Prog.pure_eq_ret, wp_deviceId,
    dif_pos (show k0_cond1 (grid0.coords t0_0) = 1#1 by decide), dif_pos (show k0_cond2 (grid0.coords t0_0) = 1#1 by decide),
    dif_neg (show ¬ k0_cond3 (grid0.coords t0_0) = 1#1 by decide)]
  unfold Φ₀ entry scratch opened invs payToks waitCreds
  iintro ⟨⟨⟨⟨⟨%K, ⟨#HIb, #HIs0, #HIs1, #HIv0, #HIv1, #HIbP, #HIv0P, #HIv1P⟩, HatB, ⟨HatS0, HatS1, HatV0, HatV1⟩, ⟨#HrS0, #HrS1, #HrV0, #HrV1⟩, #HrBP, ⟨HtB, HtV0, HtV1, HtS0, HtS1⟩⟩, ⟨HcB, HcV0, HcV1⟩, #Hlev⟩, ⟨%fa, Hacc⟩, ⟨%fg, Hgot⟩, Hreg⟩, HO, Hx⟩, Hk⟩
  simp only [dev1_eq]
  -- the signal hands the peer this device's landing buffer
  iapply (Rounds.wp_signal 𝒱₀ ER (rd m) (c : Thread nD τ) none (dst := (peer c : Thread nD τ)) (κ := K (barCell (peer c)))
      (by rw [duties_bar]; exact Finset.mem_singleton_self _) ((amount_bar m (peer c) ()).trans (by decide)) () (O₁ c) rfl)
    $$ [HO HtB Hgot]
  · isplitr; · iexact HIbP
    isplitl [HO]; · iexact HO
    isplitl [HtB]; · iexact HtB
    isplitl [Hgot]
    · rw [payload_bar]; unfold barPay; rw [peer_peer]
      isplitl [Hgot]; · iexists fg; iexact Hgot
      isplitr; · iexact HrV0
      iexact HrV1
    · iexact HrBP
  iintro HO
  -- the block, read in eight strips of columns
  iterate 8 (iapply (wp_load 𝒱₀ (c : Thread nD τ) none Set.univ (m := Memref.whole cc0_stg0_0) (Finset.subset_univ _)) $$ Hx; iintro Hx
             rw [read_strip0])
  rw [packedMax_eq]
  -- its maxima, stored over the upper half
  ihave Hacc' := (acc_split c fa).1 $$ Hacc
  icases Hacc' with ⟨Ha0, Ha1⟩
  iapply (wp_load_rect 𝒱₀ (c : Thread nD τ) none Set.univ (m := accM) (r := Rect.unit (s := S16x128) (k0_off1 (grid0.coords t0_0)) S8x128.size (k0_off1_inb _)) (S := half 0)
    (acc_rows 0 _ (k0_off1_eq (grid0.coords t0_0)) _).subset) $$ Ha0; iintro Ha0
  iapply (wp_store 𝒱₀ (c : Thread nD τ) none Set.univ (m := accM) (r := Rect.unit (s := S16x128) (k0_off1 (grid0.coords t0_0)) S8x128.size (k0_off1_inb _)) (Mk := Finset.univ) (S := half 0)
    (acc_rows 0 _ (k0_off1_eq (grid0.coords t0_0)) _).subset) $$ Ha0; iintro Ha0
  ihave Ha0 := (Entails.of_eq (acc_kept m c 0 _ (k0_off1_eq (grid0.coords t0_0)) _ fa)) $$ Ha0
  -- the wait for the peer's signal: its landing buffer comes with it
  iapply (Rounds.wp_wait_rest_token 𝒱₀ ER (rd m) (c : Thread nD τ) none (κ := K (barCell c))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨%fn, HgP⟩, #HrV0P, #HrV1P⟩
  ihave HgP' := (got_split (peer c) fn).1 $$ HgP
  icases HgP' with ⟨Hg0, Hg1⟩
  -- the copy of the upper half
  iapply (wp_send_half m K c _ (dev2_eq c _) 0 accH_zero gotH_zero rfl rfl fn (O₁ c) (O₂ c) rfl (insert (SemLoc.reg barS, ()) W)) $$ [Ha0 Hg0 HO HtS0 HtV0]
  · isplitr; · iexact HIs0
    isplitr; · iexact HIv0P
    isplitl [Ha0]; · iexact Ha0
    isplitl [Hg0]; · iexact Hg0
    isplitl [HO]; · iexact HO
    isplitl [HtS0]; · iexact HtS0
    isplitr; · iexact HrS0
    isplitl [HtV0]; · iexact HtV0
    iexact HrV0P
  iintro ⟨HcS0, HO⟩
  rw [wp_ret]
  imod (close m (K (barCell c)) (barCell c)) $$ [HatB] with HzB
  · isplitr; · iexact HIb
    iexact HatB
  imodintro
  iapply Hk
  unfold Φ₁ invs
  isplitr [HO Hx]
  · isplitl [HzB HatS0 HatS1 HatV0 HatV1 HtV1 HtS1]
    · iexists K
      isplitr
      · isplitr; · iexact HIb
        isplitr; · iexact HIs0
        isplitr; · iexact HIs1
        isplitr; · iexact HIv0
        isplitr; · iexact HIv1
        isplitr; · iexact HIbP
        isplitr; · iexact HIv0P
        iexact HIv1P
      isplitl [HzB]; · iexact HzB
      isplitl [HatS0 HatS1 HatV0 HatV1]
      · isplitl [HatS0]; · iexact HatS0
        isplitl [HatS1]; · iexact HatS1
        isplitl [HatV0] <;> iassumption
      isplitr
      · isplitr; · iexact HrS1
        iexact HrV1P
      isplitl [HtV1] <;> iassumption
    isplitl [HcS0 HcV0 HcV1]
    · isplitl [HcS0]; · iexact HcS0
      isplitl [HcV0] <;> iassumption
    isplitl [Ha1]; · iexists fa; iexact Ha1
    isplitl [Hg1]; · iexists fn; iexact Hg1
    iexact Hreg
  isplitl [HO]; · iexists _; iexact HO
  iexact Hx

/-! ## The second grid point -/

omit [FloatOps F] in
theorem read_acc (f : Vec F S16x128 .bf16) :
    accM.view.readAt (Elt F) (Rect.unit (s := S16x128) ![0, 0] S16x128.size inb_S16x128_S16x128_0_0).toLoadRect f = f :=
  Memref.readAt_unit_zero (Elt F) cc0_scratch0 (by decide) _ f
omit [FloatOps F] in
theorem read_got (f : Vec F S16x128 .bf16) :
    gotM.view.readAt (Elt F) (Rect.unit (s := S16x128) ![0, 0] S16x128.size inb_S16x128_S16x128_0_0).toLoadRect f = f :=
  Memref.readAt_unit_zero (Elt F) cc0_scratch1 (by decide) _ f
omit [FloatOps F] in
theorem write_out (f w : Vec F S16x128 .bf16) :
    ((Memref.whole cc0_stg1_0 : Memref sig .tc .vmem S16x128 .bf16).access
      (Rect.unit (s := S16x128) ![0, 0] S16x128.size inb_S16x128_S16x128_0_0)).write (Elt F) f w Finset.univ = w :=
  Memref.write_access_unit_zero_univ (Elt F) cc0_stg1_0 (by decide) _ f w

set_option maxHeartbeats 800000 in
theorem second_point (c : Dev nD) (W : Waits sig Unit) (fo : Vec F S16x128 .bf16) (Kt : PUnit → sProp 𝕄) :
    iprop((Φ₁ m c ∗ owes (c : Thread nD τ) (O₂ c) W ∗ x1 c (xblk m c t0_1) ∗ out c fo)
        ∗ ((Φ₂ c ∗ (∃ W', owes (c : Thread nD τ) (0 : CellTallies nD τ sig Unit) W') ∗ x1 c (xblk m c t0_1) ∗ out c (result m c)) -∗ Kt ⟨⟩))
      ⊢ wp frame (wpE (defs₀ (F := F)) 𝒱₀ c none) Set.univ
          (cc0_body (grid0.coords t0_1) (Memref.whole cc0_stg0_1) (Memref.isWhole_whole _) (Memref.whole cc0_stg1_0) (Memref.isWhole_whole _)
            accM (Memref.isWhole_whole _) gotM (Memref.isWhole_whole _) cc0_scratch2 cc0_scratch3) Kt := by
  simp only [cc0_body_eq_skeleton]; unfold cc0_body_skel
  simp only [k0_part2_eq_skeleton, k0_part1_eq_skeleton]; unfold k0_part2_skel k0_part1_skel
  simp only [semSignalWord, semWaitWord, Prog.lift, Prog.bind_op, Prog.bind_ret, Prog.pure_eq_ret, wp_deviceId,
    dif_neg (show ¬ k0_cond1 (grid0.coords t0_1) = 1#1 by decide), dif_neg (show ¬ k0_cond2 (grid0.coords t0_1) = 1#1 by decide),
    dif_pos (show k0_cond3 (grid0.coords t0_1) = 1#1 by decide)]
  unfold Φ₁ invs
  iintro ⟨⟨⟨⟨%K, ⟨#HIb, #HIs0, #HIs1, #HIv0, #HIv1, #HIbP, #HIv0P, #HIv1P⟩, HzB, ⟨HatS0, HatS1, HatV0, HatV1⟩, ⟨#HrS1, #HrV1P⟩, HtV1, HtS1⟩, ⟨HcS0, HcV0, HcV1⟩, ⟨%fa, Ha1⟩, ⟨%fn, Hg1⟩, Hreg⟩, HO, Hx, Hout⟩, Hk⟩
  iterate 8 (iapply (wp_load 𝒱₀ (c : Thread nD τ) none Set.univ (m := Memref.whole cc0_stg0_1) (Finset.subset_univ _)) $$ Hx; iintro Hx
             rw [read_strip1])
  rw [packedMax_eq]
  -- the second block's maxima, stored over the lower half
  iapply (wp_load_rect 𝒱₀ (c : Thread nD τ) none Set.univ (m := accM) (r := Rect.unit (s := S16x128) (k0_off1 (grid0.coords t0_1)) S8x128.size (k0_off1_inb _)) (S := half 1)
    (acc_rows 1 _ (k0_off1_eq (grid0.coords t0_1)) _).subset) $$ Ha1; iintro Ha1
  iapply (wp_store 𝒱₀ (c : Thread nD τ) none Set.univ (m := accM) (r := Rect.unit (s := S16x128) (k0_off1 (grid0.coords t0_1)) S8x128.size (k0_off1_inb _)) (Mk := Finset.univ) (S := half 1)
    (acc_rows 1 _ (k0_off1_eq (grid0.coords t0_1)) _).subset) $$ Ha1; iintro Ha1
  ihave Ha1 := (Entails.of_eq (acc_kept m c 1 _ (k0_off1_eq (grid0.coords t0_1)) _ fa)) $$ Ha1
  -- the copy of the lower half
  iapply (wp_send_half m K c _ (dev3_eq c _) 1 accH_one gotH_one rfl rfl fn (O₂ c) 0 (by unfold O₂; rw [zero_add]) W) $$ [Ha1 Hg1 HO HtS1 HtV1]
  · isplitr; · iexact HIs1
    isplitr; · iexact HIv1P
    isplitl [Ha1]; · iexact Ha1
    isplitl [Hg1]; · iexact Hg1
    isplitl [HO]; · iexact HO
    isplitl [HtS1]; · iexact HtS1
    isplitr; · iexact HrS1
    isplitl [HtV1]; · iexact HtV1
    iexact HrV1P
  iintro ⟨HcS1, HO⟩
  -- the four waits: both halves of either buffer come back
  iapply (wp_wait_sent m K c 0 accH_zero rfl _) $$ [HcS0 HO HatS0]
  · isplitr; · iexact HIs0
    isplitl [HcS0]; · iexact HcS0
    isplitl [HO] <;> iassumption
  iintro ⟨HO, HatS0, Ha0⟩
  iapply (wp_wait_got m K c 0 gotH_zero rfl _) $$ [HcV0 HO HatV0]
  · isplitr; · iexact HIv0
    isplitl [HcV0]; · iexact HcV0
    isplitl [HO] <;> iassumption
  iintro ⟨HO, HatV0, Hg0⟩
  iapply (wp_wait_sent m K c 1 accH_one rfl _) $$ [HcS1 HO HatS1]
  · isplitr; · iexact HIs1
    isplitl [HcS1]; · iexact HcS1
    isplitl [HO] <;> iassumption
  iintro ⟨HO, HatS1, Ha1⟩
  iapply (wp_wait_got m K c 1 gotH_one rfl _) $$ [HcV1 HO HatV1]
  · isplitr; · iexact HIv1
    isplitl [HcV1]; · iexact HcV1
    isplitl [HO] <;> iassumption
  iintro ⟨HO, HatV1, Hg1⟩
  ihave Hacc := (acc_split c (own m c)).2 $$ [Ha0 Ha1]
  · isplitl [Ha0] <;> iassumption
  ihave Hgot := (got_split c (own m (peer c))).2 $$ [Hg0 Hg1]
  · isplitl [Hg0] <;> iassumption
  -- the larger of the two, stored as the result
  iapply (wp_load 𝒱₀ (c : Thread nD τ) none Set.univ (m := accM) (Finset.subset_univ _)) $$ Hacc; iintro Hacc
  rw [read_acc]
  iapply (wp_load 𝒱₀ (c : Thread nD τ) none Set.univ (m := gotM) (Finset.subset_univ _)) $$ Hgot; iintro Hgot
  rw [read_got]
  iapply (wp_load 𝒱₀ (c : Thread nD τ) none Set.univ (m := Memref.whole cc0_stg1_0) (Finset.subset_univ _)) $$ Hout; iintro Hout
  iapply (wp_store 𝒱₀ (c : Thread nD τ) none Set.univ (m := Memref.whole cc0_stg1_0)
    (r := Rect.unit (s := S16x128) ![0, 0] S16x128.size inb_S16x128_S16x128_0_0) (Mk := Finset.univ) (Finset.subset_univ _)) $$ Hout; iintro Hout
  rw [write_out, wp_ret]
  imod (close m (K (sendCell c 0)) (sendCell c 0)) $$ [HatS0] with HzS0
  · isplitr; · iexact HIs0
    iexact HatS0
  imod (close m (K (sendCell c 1)) (sendCell c 1)) $$ [HatS1] with HzS1
  · isplitr; · iexact HIs1
    iexact HatS1
  imod (close m (K (recvCell c 0)) (recvCell c 0)) $$ [HatV0] with HzV0
  · isplitr; · iexact HIv0
    iexact HatV0
  imod (close m (K (recvCell c 1)) (recvCell c 1)) $$ [HatV1] with HzV1
  · isplitr; · iexact HIv1
    iexact HatV1
  imodintro
  iapply Hk
  unfold Φ₂ quiet scratch
  isplitr [HO Hx Hout]
  · isplitl [HzB HzS0 HzS1 HzV0 HzV1]
    · isplitl [HzB]; · iexact HzB
      isplitl [HzS0]; · iexact HzS0
      isplitl [HzS1]; · iexact HzS1
      isplitl [HzV0] <;> iassumption
    isplitl [Hacc]; · iexists _; iexact Hacc
    isplitl [Hgot]; · iexists _; iexact Hgot
    iexact Hreg
  isplitl [HO]; · iexists _; iexact HO
  isplitl [Hx]; · iexact Hx
  iexact Hout

end Cert.RowMax

end
-- ==== Proof.Region.lean ====
/-
# The kernel as a region of the program

The proof data of the kernel's two grid points, each point shown to keep it, and the region built from it: entered with
the exchange's semaphores still dormant and a device owing what it will pay its peer, left with all of them at zero, the
argument unchanged and the packed result in place.
-/
module

public import proofs.«01_k».proof.Proof.Body
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.ValueKit

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The proof data -/

/-- The buffers of device `c` when the program starts. -/
def V₀ (c : Dev nD) : Valuation τ sig (Elt F) := fun b => m (c, b)
/-- And when the kernel is done. -/
def V₁ (c : Dev nD) : Valuation τ sig (Elt F) := Function.update (V₀ m c) (Proc.devRef .tc main_v1) (result m c)

theorem V₁_result (c : Dev nD) : V₁ m c (Proc.devRef .tc main_v1) = result m c := Function.update_self ..
theorem V₁_of_ne (c : Dev nD) (b : DevRef τ sig) (h : b ≠ Proc.devRef .tc main_v1) : V₁ m c b = V₀ m c b := Function.update_of_ne h ..

def dat (c : Dev nD) : Dat τ (Elt F) Unit ℕ UU ℕ cfg0 c where
  A w := V₀ m c (Proc.devRef .tc (Pipeline.arrRef spec0 w))
  after w t := match w with
    | ⟨0, _⟩ => xblk m c t
    | ⟨1, _⟩ => result m c
  Φ t := match t with
    | ⟨0, _⟩ => Φ₀ m c
    | ⟨1, _⟩ => Φ₁ m c
    | ⟨_ + 2, _⟩ => Φ₂ c
  q _ := fullShare
  owed t := match t with
    | ⟨0, _⟩ => O₀ c
    | ⟨1, _⟩ => O₂ c
    | ⟨_ + 2, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (dat m c).owed 0 = O₀ c := rfl
theorem owed_last (c : Dev nD) : (dat m c).owed (Fin.last cfg0.N) = 0 := rfl

theorem owesAt_intro (c : Dev nD) (t : Fin (cfg0.N + 1)) (O : CellTallies nD τ sig Unit) (h : (dat m c).owed t = O) :
    iprop(∃ W, owes (c : Thread nD τ) O W) ⊢ ((dat m c).owesAt () t : sProp 𝕄) := by
  unfold Dat.owesAt Pipeline.owesWithin Dat.bound
  rw [h]
  iintro ⟨%W, HO⟩
  iexists W
  isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ iprop(∃ W, owes (c : Thread nD τ) O W) := by
  unfold Dat.owesAt Pipeline.owesWithin
  rw [h]
  iintro ⟨%W, -, HO⟩
  iexists W
  iexact HO

/-- The argument's block is fetched at each point. -/
theorem before_arg (c : Dev nD) (t : Fin grid0.N) (d) : (dat m c).before (0 : Fin 2) t d = xblk m c t := by
  unfold Dat.before
  rw [if_pos (fetch0_0 t)]
  rfl

/-- Ownership of a whole buffer through its memref. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      ⊣⊢ (((c : Thread nD τ).loc b) ↦{fullShare} X) := by
  unfold owns
  simp only [Memref.view_whole, View.read_whole, View.set_whole]
  constructor
  · iintro ⟨%f, %h, H⟩
    subst h
    iexact H
  · iintro H
    iexists X
    isplitr; · ipureintro; rfl
    iexact H

/-! ## The two points -/

theorem point_zero (c : Dev nD) :
    iprop(Φ₀ m c ∗ (dat m c).owesAt () t0_0.castSucc
        ∗ (∃ d, owns c (Memref.whole cc0_stg0_0) fullShare ((dat m c).before (0 : Fin 2) t0_0 d))
        ∗ (∃ d, owns c (Memref.whole cc0_stg1_0) fullShare ((dat m c).before (1 : Fin 2) t0_0 d)))
      ⊢ wp frame (wpE (defs₀ (F := F)) 𝒱₀ c none) Set.univ
          (cc0_body (grid0.coords t0_0) (Memref.whole cc0_stg0_0) (Memref.isWhole_whole _) (Memref.whole cc0_stg1_0) (Memref.isWhole_whole _)
            accM (Memref.isWhole_whole _) gotM (Memref.isWhole_whole _) cc0_scratch2 cc0_scratch3) fun _ =>
          iprop(Φ₁ m c ∗ (dat m c).owesAt () t0_0.succ
            ∗ owns c (Memref.whole cc0_stg0_0) fullShare (xblk m c t0_0)
            ∗ (∃ d, owns c (Memref.whole cc0_stg1_0) fullShare ((dat m c).before (1 : Fin 2) t0_0 d)) : sProp 𝕄) := by
  iintro ⟨HΦ, HO, ⟨%d, Hx⟩, Hout⟩
  rw [before_arg]
  ihave Hx := (owns_buf c cc0_stg0_0 _).1 $$ Hx
  ihave HO := (owesAt_elim m c _ (O₀ c) rfl) $$ HO
  icases HO with ⟨%W, HO⟩
  iapply (first_point m c W _)
  isplitl [HΦ HO Hx]
  · isplitl [HΦ]; · iexact HΦ
    isplitl [HO]; · iexact HO
    iexact Hx
  iintro ⟨HΦ, HO, Hx⟩
  isplitl [HΦ]; · iexact HΦ
  isplitl [HO]; · iapply (owesAt_intro m c _ (O₂ c) rfl); iexact HO
  isplitl [Hx]; · iapply (owns_buf c cc0_stg0_0 _).2; iexact Hx
  iexact Hout

theorem point_one (c : Dev nD) :
    iprop(Φ₁ m c ∗ (dat m c).owesAt () t0_1.castSucc
        ∗ (∃ d, owns c (Memref.whole cc0_stg0_1) fullShare ((dat m c).before (0 : Fin 2) t0_1 d))
        ∗ (∃ d, owns c (Memref.whole cc0_stg1_0) fullShare ((dat m c).before (1 : Fin 2) t0_1 d)))
      ⊢ wp frame (wpE (defs₀ (F := F)) 𝒱₀ c none) Set.univ
          (cc0_body (grid0.coords t0_1) (Memref.whole cc0_stg0_1) (Memref.isWhole_whole _) (Memref.whole cc0_stg1_0) (Memref.isWhole_whole _)
            accM (Memref.isWhole_whole _) gotM (Memref.isWhole_whole _) cc0_scratch2 cc0_scratch3) fun _ =>
          iprop(Φ₂ c ∗ (dat m c).owesAt () t0_1.succ
            ∗ owns c (Memref.whole cc0_stg0_1) fullShare (xblk m c t0_1)
            ∗ owns c (Memref.whole cc0_stg1_0) fullShare (result m c) : sProp 𝕄) := by
  iintro ⟨HΦ, HO, ⟨%d, Hx⟩, ⟨%d', Hout⟩⟩
  rw [before_arg]
  ihave Hx := (owns_buf c cc0_stg0_1 _).1 $$ Hx
  ihave Hout := (owns_buf c cc0_stg1_0 _).1 $$ Hout
  ihave HO := (owesAt_elim m c _ (O₂ c) rfl) $$ HO
  icases HO with ⟨%W, HO⟩
  iapply (second_point m c W _ _)
  isplitl [HΦ HO Hx Hout]
  · isplitl [HΦ]; · iexact HΦ
    isplitl [HO]; · iexact HO
    isplitl [Hx]; · iexact Hx
    iexact Hout
  iintro ⟨HΦ, HO, Hx, Hout⟩
  isplitl [HΦ]; · iexact HΦ
  isplitl [HO]; · iapply (owesAt_intro m c _ 0 rfl); iexact HO
  isplitl [Hx]; · iapply (owns_buf c cc0_stg0_1 _).2; iexact Hx
  iapply (owns_buf c cc0_stg1_0 _).2; iexact Hout

set_option maxRecDepth 4000 in
theorem body_obligation (c : Dev nD) : BodyObligation (dat m c) (defs₀ (F := F)) 𝒱₀ () Set.univ := fun t => by
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  rcases fin_N0 t with rfl | rfl
  · exact point_zero m c
  · exact point_one m c

/-! ## The region -/

/-- The kernel's own semaphores. -/
abbrev osem : Fin 4 → SemLoc sig
  | 0 => .dma (sendS 0)
  | 1 => .dma (sendS 1)
  | 2 => .dma (recvS 0)
  | 3 => .dma (recvS 1)

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ownSems_eq (c : Dev nD) : (Pipeline.ownSems0 osem c : sProp 𝕄)
    = iprop(semVal (sendCell c 0) 0 ∗ semVal (sendCell c 1) 0 ∗ semVal (recvCell c 0) 0 ∗ semVal (recvCell c 1) 0) :=
  bigSep_four (F := F) fun k : Fin 4 => (semVal ((c : Thread nD τ), osem k) 0 : sProp 𝕄)

/-- Entering the kernel opens the four. -/
theorem enter (c : Dev nD) : iprop(start₀ m c ∗ Pipeline.ownSems0 osem c ∗ levAts L lv) ⊢ (|={Set.univ}=> entry m c : sProp 𝕄) := by
  rw [ownSems_eq]
  unfold start₀ entry ghost invs
  iintro ⟨⟨⟨%K, ⟨#HIb, #HIs0, #HIs1, #HIv0, #HIv1, #HIbP, #HIv0P, #HIv1P⟩, HatB, ⟨HoS0, HoS1, HoV0, HoV1⟩, #HrP, Htoks⟩, Hcr⟩, ⟨HzS0, HzS1, HzV0, HzV1⟩, #Hlev⟩
  imod (Rounds.cell_open ER (rd m) (g := sendCell c 0) (Set.mem_univ (K (sendCell c 0)))) $$ [HoS0 HzS0] with ⟨HatS0, #HrS0⟩
  · isplitr; · iexact HIs0
    isplitl [HoS0] <;> iassumption
  imod (Rounds.cell_open ER (rd m) (g := sendCell c 1) (Set.mem_univ (K (sendCell c 1)))) $$ [HoS1 HzS1] with ⟨HatS1, #HrS1⟩
  · isplitr; · iexact HIs1
    isplitl [HoS1] <;> iassumption
  imod (Rounds.cell_open ER (rd m) (g := recvCell c 0) (Set.mem_univ (K (recvCell c 0)))) $$ [HoV0 HzV0] with ⟨HatV0, #HrV0⟩
  · isplitr; · iexact HIv0
    isplitl [HoV0] <;> iassumption
  imod (Rounds.cell_open ER (rd m) (g := recvCell c 1) (Set.mem_univ (K (recvCell c 1)))) $$ [HoV1 HzV1] with ⟨HatV1, #HrV1⟩
  · isplitr; · iexact HIv1
    isplitl [HoV1] <;> iassumption
  imodintro
  isplitr [Hcr]
  · iexists K
    unfold opened invs
    isplitr
    · isplitr; · iexact HIb
      isplitr; · iexact HIs0
      isplitr; · iexact HIs1
      isplitr; · iexact HIv0
      isplitr; · iexact HIv1
      isplitr; · iexact HIbP
      isplitr; · iexact HIv0P
      iexact HIv1P
    isplitl [HatB]; · iexact HatB
    isplitl [HatS0 HatS1 HatV0 HatV1]
    · isplitl [HatS0]; · iexact HatS0
      isplitl [HatS1]; · iexact HatS1
      isplitl [HatV0] <;> iassumption
    isplitr
    · isplitr; · iexact HrS0
      isplitr; · iexact HrS1
      isplitr; · iexact HrV0
      iexact HrV1
    isplitr; · iexact HrP
    iexact Htoks
  isplitl [Hcr]; · iexact Hcr
  iexact Hlev

theorem to_first (c : Dev nD) :
    iprop(Pipeline.scopedRest (Pipeline.pin (pcfgs (F := F)) adm 0).spec c ∗ (∃ r, prngReg c r)
        ∗ StableHlo.held (c.tc : Thread nD τ) ∅ (V₀ m c) ∗ entry m c) ⊢ (pdats m 0 c).Φ 0 := by
  show _ ⊢ iprop(entry m c ∗ scratch c)
  rw [show (Pipeline.scopedRest (Ix := Unit) (Name := ℕ) (U := UU) (Lvl := ℕ) (Val := Elt F) (Pipeline.pin (pcfgs (F := F)) adm 0).spec c : sProp 𝕄)
    = iprop((∃ f, accAll c f) ∗ ∃ f, gotAll c f) from scopedRest0_eq c]
  unfold scratch
  iintro ⟨⟨Ha, Hg⟩, Hp, -, He⟩
  isplitl [He]; · iexact He
  isplitl [Ha]; · iexact Ha
  isplitl [Hg] <;> iassumption

theorem of_last (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (V₁ m c) ∗ Pipeline.ownSems0 osem c ∗ semVal (barCell c) 0) := by
  show iprop(quiet c ∗ scratch c) ⊢ _
  rw [show (Pipeline.scopedRest (Ix := Unit) (Name := ℕ) (U := UU) (Lvl := ℕ) (Val := Elt F) (Pipeline.pin (pcfgs (F := F)) adm 0).spec c : sProp 𝕄)
    = iprop((∃ f, accAll c f) ∗ ∃ f, gotAll c f) from scopedRest0_eq c, ownSems_eq,
    show (StableHlo.held (c.tc : Thread nD τ) ∅ (V₁ m c) : sProp 𝕄) = BI.emp from bigSep_empty]
  unfold quiet scratch
  iintro ⟨⟨Hb, Hs⟩, Ha, Hg, Hp⟩
  isplitl [Ha Hg]; · isplitl [Ha] <;> iassumption
  isplitl [Hp]; · iexact Hp
  isplitr; · iempintro
  isplitl [Hs]; · iexact Hs
  iexact Hb

/-- The packed result is written back whole at the last point. -/
theorem arr_result (c : Dev nD) : (dat m c).arrAt (1 : Fin 2) cfg0.N = result m c := by
  refine (dat m c).arrAt_eq_of_after_last (1 : Fin 2) t0_1 (by decide +kernel) _ fun j => ?_
  rfl

/-- All the buffers of a device that outlive the kernel; those that the kernel is not given as operands. -/
def bufs : Finset (DevRef τ sig) := (StableHlo.tcRefs τ sig).filter fun b => ¬ b.isScoped
def others : Finset (DevRef τ sig) := bufs \ Pipeline.arrRefs spec0

theorem arr_sub : Pipeline.arrRefs (τ := τ) spec0 ⊆ bufs := by decide

theorem held_parts (c : Dev nD) (W : Valuation τ sig (Elt F)) :
    (StableHlo.held (c.tc : Thread nD τ) bufs W : sProp 𝕄)
      = iprop(StableHlo.held (c.tc : Thread nD τ) (Pipeline.arrRefs spec0) W ∗ StableHlo.held (c.tc : Thread nD τ) others W) :=
  StableHlo.held_sub_split (c.tc : Thread nD τ) arr_sub W

theorem others_ne (b : DevRef τ sig) (h : b ∈ others) : b ≠ Proc.devRef .tc main_v1 := by
  rintro rfl
  exact absurd h (by decide)

theorem share_full (c : Dev nD) (w : Fin cfg0.W) : (dat m c).share w = fullShare := by unfold Dat.share; split <;> rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Whatever a device owes between points is above the level of the staging semaphores. -/
theorem owed_above (c : Dev nD) (t : Fin (cfg0.N + 1)) (g : GSem nD τ sig) (i : Unit) (h : 0 < (dat m c).owed t g i) :
    i ∈ L g ∧ (0 : ℕ) < lv g i := by
  have recv (k : Fin 2) : i ∈ L (recvCell (peer c) k) ∧ (0 : ℕ) < lv (recvCell (peer c) k) i :=
    ⟨by rw [L_tc]; exact Finset.mem_singleton_self _, by rw [lv_recv]; decide⟩
  match t, h with
  | ⟨0, _⟩, h =>
    rcases O₀_pos (c := c) h with rfl | ⟨k, rfl⟩
    · exact ⟨by rw [L_tc]; exact Finset.mem_singleton_self _, by rw [lv_bar]; decide⟩
    · exact recv k
  | ⟨1, _⟩, h =>
    obtain ⟨k, rfl⟩ := O₂_pos (c := c) h
    exact recv k
  | ⟨_ + 2, _⟩, h => exact absurd h (Nat.lt_irrefl 0)

theorem staging_ne : ∀ (w : Fin 2) (s : Fin (spec0 w).nbuf),
    ¬ ((SemLoc.dma ((spec0 w).sem s) : SemLoc sig) = .dma (recvS 0) ∨ (SemLoc.dma ((spec0 w).sem s) : SemLoc sig) = .dma (recvS 1)) := by decide
theorem lv_staging (c : Dev nD) (w : Fin 2) (s : Fin (spec0 w).nbuf) :
    lv ((c : Thread nD τ), .dma ((spec0 w).sem s)) () = 0 := by
  unfold lv
  rw [if_neg (fun h => by cases h), if_neg (staging_ne w s)]

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_obligation m c).loose)
    (fun _ => 0) O₀ (fun c => (owed_zero m c).trans (zero_add _).symm) (owed_last m) (fun _ => rfl)
    (share_full m)
    (V₀ m) (V₁ m) (fun c b hb => V₁_of_ne m c b (others_ne b (Finset.mem_sdiff.mp hb).1))
    (start₀ m) (fun c => semVal (barCell c) 0) (entry m) (fun c => semVal (barCell c) 0) (enter m) (to_first m) (of_last m)
    (fun c => by iintro H; imodintro; iexact H)
    (fun _ => 0)
    ⟨fun c w s => by rw [L_tc]; exact Finset.mem_singleton_self _,
      fun c w s => Nat.le_of_eq (lv_staging c w s),
      owed_above m⟩
    (fun _ => iprop(emp))
    (fun c w => rfl)
    (fun c w => match w with
      | ⟨0, _⟩ => ((dat m c).arrAt_in (0 : Fin 2) rfl _).trans (V₁_of_ne m c _ (by decide)).symm
      | ⟨1, _⟩ => (arr_result m c).trans (V₁_result m c).symm)

theorem region_pre (c : Dev nD) :
    iprop(StableHlo.held (c : Thread nD τ) bufs (V₀ m c) ∗ start₀ m c ∗ (∃ r, prngReg c r) ∗ ∃ W, owes (c : Thread nD τ) (O₀ c) W)
      ⊢ (region m).pre c := by
  show _ ⊢ iprop(StableHlo.held (c.tc : Thread nD τ) (Pipeline.arrRefs (τ := τ) spec0) (V₀ m c) ∗ (∃ r, prngReg c r)
    ∗ (StableHlo.held (c.tc : Thread nD τ) others (V₀ m c) ∗ emp) ∗ start₀ m c ∗ ∃ Wd, owes (c : Thread nD τ) (0 + O₀ c) Wd)
  rw [held_parts, zero_add]
  iintro ⟨⟨Ha, Hr⟩, Hst, Hp, HO⟩
  isplitl [Ha]; · iexact Ha
  isplitl [Hp]; · iexact Hp
  isplitl [Hr]
  · isplitl [Hr]; · iexact Hr
    iempintro
  isplitl [Hst] <;> iassumption

theorem region_post (c : Dev nD) :
    (region m).post c ⊢ iprop(StableHlo.held (c : Thread nD τ) bufs (V₁ m c)
      ∗ semVal (barCell c) 0 ∗ ∃ W, owes (c : Thread nD τ) (0 : CellTallies nD τ sig Unit) W) := by
  show iprop(StableHlo.held (c.tc : Thread nD τ) (Pipeline.arrRefs (τ := τ) spec0) (V₁ m c) ∗ (∃ r, prngReg c r)
    ∗ (StableHlo.held (c.tc : Thread nD τ) others (V₁ m c) ∗ emp) ∗ semVal (barCell c) 0 ∗ ∃ Wd, owes (c : Thread nD τ) (0 : CellTallies nD τ sig Unit) Wd) ⊢ _
  rw [held_parts]
  iintro ⟨Ha, -, ⟨Hr, -⟩, Hb, HO⟩
  isplitl [Ha Hr]; · isplitl [Ha] <;> iassumption
  isplitl [Hb] <;> iassumption

end Cert.RowMax

end
-- ==== Proof.Run.lean ====
/-
# The program's run

At the launch the exchange's twenty cells are set up - the barriers with their counters, the copies' semaphores dormant -
and every device is given its positions, the tokens of what it will pay and the units it will wait for. From there the
kernel's region and the reshape after it run to the end: the argument unchanged, the result the reshaped row maxima, every
semaphore at zero.
-/
module

public import proofs.«01_k».proof.Proof.Region
public import Idealize.ShloMosaic.Lib.Pipeline.Regions
public import Idealize.ShloMosaic.Lib.Quiescent
public import Idealize.ShloMosaic.Lib.StableHlo

@[expose] public section

noncomputable section

namespace Cert.RowMax

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The reshape -/

/-- What device `c` returns: its packed maxima as one column. -/
def column (c : Dev nD) : Vec F S2048x1 .bf16 := shapeCast S2048x1 (result m c) shapeCasts_S16x128_S2048x1

/-- The buffers at the end. -/
def V₂ (c : Dev nD) : Valuation τ sig (Elt F) := StableHlo.after hostOps1 (V₁ m c)

theorem V₂_column (c : Dev nD) : V₂ m c (Proc.devRef .tc main_v2) = column m c := by
  unfold V₂
  rw [StableHlo.after_cons, StableHlo.after_nil]
  refine (StableHlo.reshape_result ..).trans ?_
  rw [V₁_result]
  rfl

theorem V₂_arg (c : Dev nD) : V₂ m c (Proc.devRef .tc main_arg0) = m ((c : Thread nD τ).loc main_arg0) := by
  unfold V₂
  rw [StableHlo.after_cons, StableHlo.after_nil]
  refine (HloOp.result_of_not_mem _ _ ?_).trans (V₁_of_ne m c _ (by decide))
  show (Proc.devRef .tc main_arg0 : DevRef τ sig) ∉ ({Proc.devRef .tc main_v2} : Finset (DevRef τ sig))
  decide

theorem host_sub : ∀ op ∈ (hostOps1 : List (HloOp τ sig (Elt F))), op.bufs ⊆ bufs := fun op h => by
  simp only [hostOps1, List.mem_singleton] at h
  subst h
  show ({Proc.devRef .tc main_v1, Proc.devRef .tc main_v2} : Finset (DevRef τ sig)) ⊆ bufs
  decide

theorem host_fresh : ∀ op ∈ (hostOps1 : List (HloOp τ sig (Elt F))), op.fresh = ∅ := fun op h => by
  simp only [hostOps1, List.mem_singleton] at h
  subst h
  rfl

/-- What a device keeps beside its buffers after the kernel. -/
def done (c : Dev nD) : sProp 𝕄 := iprop(semVal (barCell c) 0 ∗ ∃ W, owes (c : Thread nD τ) (0 : CellTallies nD τ sig Unit) W)

def reshaping : Pipeline.HostSeg (Name := ℕ) (U := UU) (pcfgs (F := F)) defs₀ 𝒱₀ L lv :=
  Pipeline.HostSeg.ofOps _ _ _ _ _ bufs hostOps1 host_sub host_fresh (V₁ m) done

def segs : List (Pipeline.Seg (pcfgs (F := F)) adm (pdats m) () defs₀ 𝒱₀ L lv) := [.region (region m), .host (reshaping m)]

theorem main_run (c : Dev nD) : main (F := F) c = Pipeline.Seg.run (segs m) :=
  main_segs adm (pdats m) () 𝒱₀ L lv (reshaping m) (region m) rfl c

/-! ## Cells and tokens at the launch -/

def barEmb : Dev nD ↪ GSem nD τ sig := ⟨fun c => barCell c, fun _ _ h => congrArg (fun g : GSem nD τ sig => g.1.1) h⟩

theorem osem_inj : Function.Injective osem := by decide

def dmaEmb : Dev nD × Fin 4 ↪ GSem nD τ sig :=
  ⟨fun x => ((x.1 : Thread nD τ), osem x.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb

/-- A device's five semaphores. -/
abbrev allSems : Fin 5 → SemLoc sig
  | 0 => .reg barS
  | 1 => .dma (recvS 0)
  | 2 => .dma (recvS 1)
  | 3 => .dma (sendS 0)
  | 4 => .dma (sendS 1)

theorem allSems_inj : Function.Injective allSems := by decide

/-- One token for each cell. -/
def dutyToks : Finset (GSem nD τ sig × ℕ × Unit) :=
  Finset.univ.map ⟨fun x : Dev nD × Fin 5 => (((x.1 : Thread nD τ), allSems x.2), 0, ()), fun _ _ h =>
    Prod.ext (congrArg (fun t : GSem nD τ sig × ℕ × Unit => t.1.1.1) h)
      (allSems_inj (congrArg (fun t : GSem nD τ sig × ℕ × Unit => t.1.2) h))⟩

theorem osem_ne_bar : ∀ k : Fin 4, osem k ≠ .reg barS := by decide

theorem cells_disjoint : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ dmaCells : Finset (GSem nD τ sig)) :=
  Finset.mem_union_left _ (Finset.mem_map_of_mem barEmb (Finset.mem_univ c))
theorem dma_mem (c : Dev nD) (k : Fin 4) : ((c : Thread nD τ), osem k) ∈ (barCells ∪ dmaCells : Finset (GSem nD τ sig)) :=
  Finset.mem_union_right _ (Finset.mem_map_of_mem dmaEmb (Finset.mem_univ (c, k)))

/-- The ghost state that the launch starts from. -/
def u₀ : UU :=
  (initOf (Pipeline.cells (Pipeline.pin (pcfgs (F := F)) adm) cellOf_inj) (Pipeline.launchToks (Pipeline.pin (pcfgs (F := F)) adm) cellOf_inj),
    launchOf barCells dmaCells dutyToks)

/-- The exchange's share of it, kept by device 0 until it is dealt out. -/
def G (c : Dev nD) : sProp 𝕄 := if c = 0 then BI.own (ER (launchOf barCells dmaCells dutyToks)) else iprop(emp)

theorem G_all : bigSep Finset.univ (G (F := F)) = BI.own (ER (launchOf barCells dmaCells dutyToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, bigSep_emp_const]
  unfold G
  rw [if_pos rfl]
  exact BI.equiv_iff.mp sep_emp

/-- What every device may use: all the cells' invariants under one map of names, and that the barriers are ready. -/
def records (κ : GSem nD τ sig → ℕ) : sProp 𝕄 :=
  iprop((bigSep (barCells ∪ dmaCells) fun g => cellInv ER (rd m) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ dmaCells : Finset (GSem nD τ sig))) :
    (bigSep (barCells ∪ dmaCells) fun g => (cellInv ER (rd m) (κ g) g : sProp 𝕄)) ⊢ cellInv ER (rd m) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

/-- What device `c` alone is given. -/
def linear (c : Dev nD) : sProp 𝕄 :=
  iprop(atPos ER (barCell c) 0 ∅ 0
    ∗ (openTok ER (sendCell c 0) ∗ openTok ER (sendCell c 1) ∗ openTok ER (recvCell c 0) ∗ openTok ER (recvCell c 1)) ∗ payToks c)

theorem ghost_intro (κ : GSem nD τ sig → ℕ) (c : Dev nD) : iprop(records m κ ∗ linear c) ⊢ iprop(∃ K, ghost m K c) := by
  unfold records linear ghost invs
  iintro ⟨⟨#HI, #HR⟩, Hat, Hopen, Htok⟩
  iexists κ
  isplitr
  · isplitr; · iapply (inv_at m κ (bar_mem c)); iexact HI
    isplitr; · iapply (inv_at m κ (dma_mem c 0)); iexact HI
    isplitr; · iapply (inv_at m κ (dma_mem c 1)); iexact HI
    isplitr; · iapply (inv_at m κ (dma_mem c 2)); iexact HI
    isplitr; · iapply (inv_at m κ (dma_mem c 3)); iexact HI
    isplitr; · iapply (inv_at m κ (bar_mem (peer c))); iexact HI
    isplitr; · iapply (inv_at m κ (dma_mem (peer c) 2)); iexact HI
    iapply (inv_at m κ (dma_mem (peer c) 3)); iexact HI
  isplitl [Hat]; · iexact Hat
  isplitl [Hopen]; · iexact Hopen
  isplitr; · iapply (reached_at (F := F) (peer c)); iexact HR
  iexact Htok

/-- The tokens of device `c`'s own cells. -/
def cellToks (c : Dev nD) : sProp 𝕄 :=
  iprop(dutyTok ER (barCell c) 0 () ∗ dutyTok ER (recvCell c 0) 0 () ∗ dutyTok ER (recvCell c 1) 0 ()
    ∗ dutyTok ER (sendCell c 0) 0 () ∗ dutyTok ER (sendCell c 1) 0 ())

theorem bigSep_five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem toks_by_device : bigSep dutyToks (fun x => (dutyTok ER x.1 x.2.1 x.2.2 : sProp 𝕄)) = bigSep Finset.univ fun c : Dev nD => cellToks c := by
  unfold dutyToks
  rw [bigSep_map, bigSep_univ_prod]
  exact bigSep_congr fun c _ => by unfold cellToks; rw [bigSep_five]; rfl

/-- The tokens of a barrier and of the receive semaphores go to the peer, which pays them. -/
theorem toks_swapped : (bigSep Finset.univ fun c : Dev nD => (cellToks c : sProp 𝕄)) ⊢ bigSep Finset.univ fun c : Dev nD => payToks c := by
  unfold cellToks payToks
  simp only [bigSep_sep']
  rw [bigSep_univ_equiv peers (fun c : Dev nD => (dutyTok ER (barCell c) 0 () : sProp 𝕄)),
    bigSep_univ_equiv peers (fun c : Dev nD => (dutyTok ER (recvCell c 0) 0 () : sProp 𝕄)),
    bigSep_univ_equiv peers (fun c : Dev nD => (dutyTok ER (recvCell c 1) 0 () : sProp 𝕄))]
  exact BI.Entails.refl _

/-! ## The units waited for -/

theorem peer_iff (d c : Dev nD) : c = peer d ↔ d = peer c := by revert d c; decide

theorem bar_cell_iff (c d : Dev nD) : barCell c = barCell d ↔ c = d :=
  ⟨fun h => congrArg (fun g : GSem nD τ sig => g.1.1) h, fun h => by rw [h]⟩
theorem recv_cell_iff (c d : Dev nD) (k : Fin 2) : recvCell c k = recvCell d k ↔ c = d :=
  ⟨fun h => congrArg (fun g : GSem nD τ sig => g.1.1) h, fun h => by rw [h]⟩
theorem recv_ne : (SemLoc.dma (recvS 0) : SemLoc sig) ≠ .dma (recvS 1) := by decide

/-- A single unit entry, read at a cell. -/
theorem tally_read (g g' : GSem nD τ sig) (n : ℕ) (P : Prop) [Decidable P] (h : g' = g ↔ P) :
    (tallyAt g () n : CellTallies nD τ sig Unit) g' () = if P then n else 0 := by
  rw [tallyAt_apply]
  by_cases hp : P
  · rw [if_pos hp, if_pos ⟨h.mpr hp, rfl⟩]
  · rw [if_neg hp, if_neg fun hg => hp (h.mp hg.1)]
theorem tally_none (g g' : GSem nD τ sig) (n : ℕ) (h : g'.2 ≠ g.2) : (tallyAt g () n : CellTallies nD τ sig Unit) g' () = 0 := by
  rw [tallyAt_apply, if_neg fun hg => h (congrArg Prod.snd hg.1)]

theorem O₀_apply (d : Dev nD) (g : GSem nD τ sig) :
    O₀ d g () = (tallyAt (recvCell (peer d) 1) () N : CellTallies nD τ sig Unit) g ()
      + (tallyAt (recvCell (peer d) 0) () N : CellTallies nD τ sig Unit) g ()
      + (tallyAt (barCell (peer d)) () 1 : CellTallies nD τ sig Unit) g () := by
  unfold O₀ O₁ O₂
  rw [Pi.add_apply, Finsupp.add_apply, Pi.add_apply, Finsupp.add_apply]

theorem owed_bar (d c : Dev nD) : O₀ d (barCell c) () = if d = peer c then 1 else 0 := by
  rw [O₀_apply, tally_none _ _ _ (recv_ne_bar 1).symm, tally_none _ _ _ (recv_ne_bar 0).symm,
    tally_read _ _ _ _ ((bar_cell_iff c (peer d)).trans (peer_iff d c)), Nat.zero_add]
theorem owed_recv (d c : Dev nD) (k : Fin 2) : O₀ d (recvCell c k) () = if d = peer c then N else 0 := by
  rw [O₀_apply, tally_none (barCell (peer d)) _ _ (recv_ne_bar k)]
  match k with
  | 0 => rw [tally_none (recvCell (peer d) 1) _ _ recv_ne, tally_read _ _ _ _ ((recv_cell_iff c (peer d) 0).trans (peer_iff d c)),
      Nat.zero_add, Nat.add_zero]
  | 1 => rw [tally_none (recvCell (peer d) 0) _ _ recv_ne.symm, tally_read _ _ _ _ ((recv_cell_iff c (peer d) 1).trans (peer_iff d c)),
      Nat.add_zero]

/-- The units that all devices owe to one cell come to what its owner waits for. -/
theorem launch_at (g : GSem nD τ sig) (c : Dev nD) (n : ℕ) (h : ∀ d, O₀ d g () = if d = peer c then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (peer c) fun _ => n, if_pos (Finset.mem_univ _)]

theorem creds (c : Dev nD) : (Pipeline.launchCred O₀ c : sProp 𝕄) ⊢ waitCreds c := by
  unfold Pipeline.launchCred waitCreds
  rw [bigSep_univ_at _ (SemLoc.reg barS), launch_at _ c _ fun d => owed_bar d c]
  refine sep_mono_right ?_
  rw [bigSep_erase (i := SemLoc.dma (recvS 0)) (Finset.mem_erase.mpr ⟨recv_ne_bar 0, Finset.mem_univ _⟩),
    launch_at _ c _ fun d => owed_recv d c 0]
  refine sep_mono_right ?_
  rw [← launch_at (recvCell c 1) c _ fun d => owed_recv d c 1]
  exact bigSep_elim (Finset.mem_erase.mpr ⟨recv_ne.symm, Finset.mem_erase.mpr ⟨recv_ne_bar 1, Finset.mem_univ _⟩⟩)

/-! ## From the launch to each device's start -/

theorem unscopedBufs_eq (c : Dev nD) :
    (unscopedBufs c (fun b => m ((c : Thread nD τ).loc b)) : sProp 𝕄) = StableHlo.held (c : Thread nD τ) bufs (V₀ m c) := by
  unfold unscopedBufs StableHlo.held bufs StableHlo.tcRefs
  rw [Finset.filter_map, bigSep_map]
  rfl

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, bigSep_singleton]

abbrev T₀ (c : Dev nD) : sProp 𝕄 :=
  iprop(StableHlo.held (c : Thread nD τ) bufs (V₀ m c) ∗ start₀ m c ∗ (∃ r, prngReg c r) ∗ ∃ W, owes (c : Thread nD τ) (O₀ c) W)
abbrev T₂ (c : Dev nD) : sProp 𝕄 := iprop(StableHlo.held (c : Thread nD τ) bufs (V₂ m c) ∗ semVal (barCell c) 0)

/-- A device's start, the exchange's ghost state apart. -/
def holdings (c : Dev nD) : sProp 𝕄 :=
  iprop(StableHlo.held (c : Thread nD τ) bufs (V₀ m c) ∗ waitCreds c ∗ owes (c : Thread nD τ) (O₀ c) ∅ ∗ ∃ r, prngReg c r)

theorem T₀_intro (κ : GSem nD τ sig → ℕ) (c : Dev nD) : iprop(records m κ ∗ (linear c ∗ holdings m c)) ⊢ T₀ m c := by
  unfold holdings T₀ start₀
  iintro ⟨#HR, Hl, Hh, Hcr, HO, Hp⟩
  isplitl [Hh]; · iexact Hh
  isplitl [Hl Hcr]
  · isplitl [Hl]
    · iapply (ghost_intro m κ c)
      isplitr; · iexact HR
      iexact Hl
    iexact Hcr
  isplitl [Hp]; · iexact Hp
  iexists ∅; iexact HO

theorem sorted (c : Dev nD) :
    iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(holdings m c ∗ (semVal (barCell c) 0 ∗ G c)) : sProp 𝕄) := by
  rw [unscopedBufs_eq, unscopedSems_eq]
  unfold holdings
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

theorem over_bars (Φ : GSem nD τ sig → sProp 𝕄) : bigSep barCells Φ = bigSep Finset.univ fun c : Dev nD => Φ (barCell c) :=
  bigSep_map (s := Finset.univ) barEmb (Φ := Φ)
theorem over_dmas (Φ : GSem nD τ sig → sProp 𝕄) :
    bigSep dmaCells Φ = bigSep Finset.univ fun c : Dev nD =>
      iprop(Φ (sendCell c 0) ∗ Φ (sendCell c 1) ∗ Φ (recvCell c 0) ∗ Φ (recvCell c 1)) := by
  rw [bigSep_map, bigSep_univ_prod]
  exact bigSep_congr fun c _ => bigSep_four fun k : Fin 4 => Φ ((c : Thread nD τ), osem k)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show _ ⊢ (bigSep Finset.univ fun c : Dev nD => iprop(holdings m c ∗ (semVal (barCell c) 0 ∗ G c)) : sProp 𝕄) from
    bigSep_mono fun c _ => sorted m ρ c) $$ H
  ihave H := (Entails.of_eq (bigSep_sep' _ _ _)) $$ H; icases H with ⟨Hhold, H⟩
  ihave H := (Entails.of_eq (bigSep_sep' _ _ _)) $$ H; icases H with ⟨Hbars, HG⟩
  ihave Hu := (Entails.of_eq (G_all (F := F))) $$ HG
  imod (Rounds.fund_launch ER (rd m) cells_disjoint (fun g _ h => h) dutyToks) $$ [Hbars Hu] with ⟨%κ, -, #Hinv, #Hr, Hat, Hopen, Htok⟩
  · isplitl [Hbars]
    · iapply (Entails.of_eq (over_bars (F := F) fun g => semVal g 0).symm) $$ Hbars
    · iexact Hu
  imodintro
  iapply (bigSep_with_persistent (R := records m κ) (Φ := fun c => iprop(linear c ∗ holdings m c)) fun c _ => T₀_intro m κ c)
  isplitr
  · unfold records
    isplitr; · iexact Hinv
    iexact Hr
  iapply (Entails.of_eq (bigSep_sep' _ _ _).symm)
  isplitr [Hhold]
  · unfold linear
    iapply (Entails.of_eq (bigSep_sep' _ _ _).symm)
    isplitl [Hat]; · iapply (Entails.of_eq (over_bars (F := F) fun g => atPos ER g 0 ∅ 0)) $$ Hat
    iapply (Entails.of_eq (bigSep_sep' _ _ _).symm)
    isplitl [Hopen]; · iapply (Entails.of_eq (over_dmas (F := F) fun g => openTok ER g)) $$ Hopen
    iapply (toks_swapped (F := F))
    iapply (Entails.of_eq (toks_by_device (F := F))) $$ Htok
  · iexact Hhold

/-! ## The run -/

theorem unscoped_is_bar : ∀ sm : SemLoc sig, sm.isScoped .tc = false → sm = .reg barS := by decide

theorem arg_mem : (Proc.devRef .tc main_arg0 : DevRef τ sig) ∈ bufs := by decide
theorem out_mem : (Proc.devRef .tc main_v2 : DevRef τ sig) ∈ bufs.erase (Proc.devRef .tc main_arg0) := by decide

/-- The two buffers that the claims name, out of all. -/
theorem named (c : Dev nD) : (StableHlo.held (c : Thread nD τ) bufs (V₂ m c) : sProp 𝕄)
    ⊢ iprop((((c : Thread nD τ).loc main_arg0) ↦{fullShare} m ((c : Thread nD τ).loc main_arg0)) ∗ (((c : Thread nD τ).loc main_v2) ↦{fullShare} column m c)) := by
  unfold StableHlo.held
  rw [bigSep_erase (i := (Proc.devRef .tc main_arg0 : DevRef τ sig)) arg_mem, V₂_arg]
  refine sep_mono_right ?_
  rw [← V₂_column]
  exact bigSep_elim (Φ := fun b : DevRef τ sig => (((c : Thread nD τ).1, b) ↦{fullShare} V₂ m c b : sProp 𝕄)) out_mem

set_option backward.isDefEq.respectTransparency.types false in
/-- From any memory, all semaphores at zero, the program ends on all four devices; each then has its argument unchanged and
    its column of row maxima as the result, and every semaphore is at zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = column m c) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := T₂ m)
    (hch := by
      refine ⟨fun c => region_pre m c, fun c => region_post m c, fun c => ?_⟩
      show iprop(StableHlo.held (c : Thread nD τ) bufs (V₂ m c) ∗ done c)
        ⊢ iprop(T₂ m c ∗ ∃ W, owes (c : Thread nD τ) (0 : CellTallies nD τ sig Unit) W)
      unfold done
      iintro ⟨Hh, Hb, HO⟩
      isplitr [HO]
      · isplitl [Hh] <;> iassumption
      · iexact HO)
    (hinit := init m ρ)
    (QY := fun c s => (s.mem ((c : Thread nD τ).loc main_arg0) = m ((c : Thread nD τ).loc main_arg0)
        ∧ s.mem ((c : Thread nD τ).loc main_v2) = column m c) ∧ s.sem (barCell c) = 0)
    (hfin := fun c s' => by
      dsimp only [T₂]
      iintro ⟨⟨Hh, Hb⟩, HSI⟩
      ihave Hn := (named m c) $$ Hh
      icases Hn with ⟨Hx, Hy⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => (h c).1,
      sem_eq_zero hs fun c sm hsm => by
        obtain rfl := unscoped_is_bar sm hsm
        exact (h c).2⟩)

end Cert.RowMax

end
-- ==== Proof.Value.lean ====
/-
# The value of the program

Over the extended reals a value lies above a maximum when it lies above every element the maximum is taken over. So a
place of a device's packed row maxima has exactly the upper bounds of one row of the device's block: first the rows of a
staged block, then those of the whole block, then those of both devices that hold the row, which together hold all of it.
The reference's maximum over the row has the same upper bounds, and the two are equal.
-/
module

public import proofs.«01_k».proof.Proof.Run
public import proofs.«01_k».proof.Proof.Gen.ReferenceIdeal
public import Idealize.ShloMosaic.PureOps.Ideal.Laws
public import Idealize.ShloMosaic.Lib.Pipeline.Value
public import Idealize.ShloMosaic.Lib.Pipeline.ValueKit.Geometry
public import Idealize.ShloMosaic.Lib.Layout

@[expose] public section

noncomputable section

namespace Cert.RowMax

open Cert.KernelIdeal Cert.KernelIdeal.Gen
open Idealize.ShloMosaic hiding ix1 ix2 eq_ix2
open Idealize.ShloMosaic.TcCoe Idealize.ShloMosaic.ValueIdx
open Idealize.SL Idealize.SL.Sem

/-! ## Bounds of a maximum -/

/-- The maximum starts at minus infinity, below every value. -/
theorem ofBits_bottom : (FloatOps.ofBits .bf16 0xFF80#16 : Ideal .bf16) = (⊥ : EReal) := by
  show Ideal.ofBits .bf16 0xFF80#16 = ⊥
  simp [Ideal.ofBits, Ideal.ieee]

/-- What bounds the maximum over the places that fall on place `j` of a column bounds the row `j`, and the converse. -/
theorem fold_row_le {n0 n1 : ℕ} (drop : (⟨2, ![n0, n1]⟩ : Shape).Idx → (⟨1, ![n0]⟩ : Shape).Idx)
    (hd : ∀ i, (drop i 0).val = (i 0).val) (x : Vec Ideal ⟨2, ![n0, n1]⟩ .bf16) (j : (⟨1, ![n0]⟩ : Shape).Idx) (β : EReal) :
    ((Finset.univ.filter fun i => drop i = j).fold (FloatOps.maximumf (F := Ideal) (φ := .bf16))
        (FloatOps.ofBits (F := Ideal) .bf16 0xFF80#16) x : EReal) ≤ β
      ↔ ∀ q : Fin n1, (x (ix2 (j 0) q) : EReal) ≤ β := by
  rw [ofBits_bottom]
  have e : ∀ s : Finset (⟨2, ![n0, n1]⟩ : Shape).Idx, (s.fold (FloatOps.maximumf (F := Ideal) (φ := .bf16)) (⊥ : EReal) x : EReal)
      = s.fold (max : EReal → EReal → EReal) ⊥ (fun i => (x i : EReal)) := fun _ => rfl
  rw [e, Finset.fold_max_le]
  constructor
  · rintro ⟨-, h⟩ q
    refine h _ (Finset.mem_filter.2 ⟨Finset.mem_univ _, funext fun a => ?_⟩)
    match a with
    | ⟨0, _⟩ => exact Fin.ext (hd _)
  · refine fun h => ⟨bot_le, fun i hi => ?_⟩
    have e : j 0 = i 0 := Fin.ext (by rw [← (Finset.mem_filter.1 hi).2]; exact hd i)
    have := h (i 1)
    rw [e] at this
    exact (iff_of_eq (congrArg (fun z => (x z : EReal) ≤ β) (eq_ix2 i))).2 this

/-! ## One staged block -/

/-- The row of a block that place `(a, b)` of its packed maxima belongs to. -/
abbrev packedRow (a : Fin 8) (b : Fin 128) : Fin 1024 := ⟨128 * a.val + b.val, by omega⟩

/-- The reduction over the lanes. -/
theorem lane_le (v : Vec Ideal S1024x128 .bf16) (h : S1024x128.Reduces [1] S1024) (hφ : FKind.Formats .bf16)
    (hacc : 0xFF80#16 = FKind.maximumf.neutral .bf16 hφ) (r : Fin 1024) (β : EReal) :
    (multiReduction (F := Ideal) .maximumf [1] S1024 v 0xFF80#16 h hφ hacc (ix1 r) : EReal) ≤ β
      ↔ ∀ l : Fin 128, (v (ix2 r l) : EReal) ≤ β := by
  rw [multiReduction_maximumf_eq_fold]
  exact fold_row_le _ (fun i => Shape.Reduces.drop_apply_val_of_eq h i 0 0) v _ β

/-- The lane reduction packed. -/
theorem lanes_le (v : Vec Ideal S1024x128 .bf16) (a : Fin 8) (b : Fin 128) (β : EReal) :
    (k0_pay1 (F := Ideal) v (ix2 a b) : EReal) ≤ β ↔ ∀ l : Fin 128, (v (ix2 (packedRow a b) l) : EReal) ≤ β := by
  unfold k0_pay1
  rw [shapeCast_self, shapeCast_apply _ _ (ix2 a b) (ix1 (packedRow a b))
    ((Shape.rowMajor_val_one _).trans (Eq.trans (by show 128 * a.val + b.val = a.val * 128 + b.val; omega)
      (Shape.rowMajor_val_two _).symm))]
  exact lane_le v _ _ _ _ β

/-- Column `off + l` of a block at lane `l` of the strip that starts at column `off`. -/
theorem cols_apply (off : ℕ) (h : off + 128 ≤ 1024) (inb) (X : Vec Ideal S1024x1024 .bf16) (r : Fin 1024) (l : Fin 128) :
    cols ![0, off] inb X (ix2 r l) = X (ix2 r ⟨off + l.val, by omega⟩) := by
  refine congrArg X (funext fun d => Fin.ext ?_)
  match d with
  | ⟨0, _⟩ => show 0 + 1 * r.val = r.val; omega
  | ⟨1, _⟩ => show off + 1 * l.val = off + l.val; omega

/-- The maximum of eight strips, lane by lane. -/
theorem strips_apply (x0 x1 x2 x3 x4 x5 x6 x7 : Vec Ideal S1024x128 .bf16) (i : S1024x128.Idx) :
    (k0_pay3 (F := Ideal) x0 x1 x2 x3 x4 x5 x6 x7 i : EReal)
      = max (α := EReal) (max (α := EReal) (max (α := EReal) (max (α := EReal) (max (α := EReal) (max (α := EReal)
          (max (α := EReal) (x0 i) (x1 i)) (x2 i)) (x3 i)) (x4 i)) (x5 i)) (x6 i)) (x7 i) := by
  unfold k0_pay3
  simp only [shapeCast_self]
  rfl

/-- What bounds a lane of the eight strips' maximum bounds the eight columns of the block that it stands for. -/
theorem strips_le (X : Vec Ideal S1024x1024 .bf16) (r : Fin 1024) (l : Fin 128) (β : EReal) :
    (k0_pay3 (F := Ideal) (cols ![0, 0] inb_S1024x1024_S1024x128_0_0 X) (cols ![0, 128] inb_S1024x1024_S1024x128_0_128 X)
      (cols ![0, 256] inb_S1024x1024_S1024x128_0_256 X) (cols ![0, 384] inb_S1024x1024_S1024x128_0_384 X)
      (cols ![0, 512] inb_S1024x1024_S1024x128_0_512 X) (cols ![0, 640] inb_S1024x1024_S1024x128_0_640 X)
      (cols ![0, 768] inb_S1024x1024_S1024x128_0_768 X) (cols ![0, 896] inb_S1024x1024_S1024x128_0_896 X) (ix2 r l) : EReal) ≤ β
    ↔ ((((((((X (ix2 r ⟨0 + l.val, by omega⟩) : EReal) ≤ β ∧ (X (ix2 r ⟨128 + l.val, by omega⟩) : EReal) ≤ β)
        ∧ (X (ix2 r ⟨256 + l.val, by omega⟩) : EReal) ≤ β) ∧ (X (ix2 r ⟨384 + l.val, by omega⟩) : EReal) ≤ β)
        ∧ (X (ix2 r ⟨512 + l.val, by omega⟩) : EReal) ≤ β) ∧ (X (ix2 r ⟨640 + l.val, by omega⟩) : EReal) ≤ β)
        ∧ (X (ix2 r ⟨768 + l.val, by omega⟩) : EReal) ≤ β) ∧ (X (ix2 r ⟨896 + l.val, by omega⟩) : EReal) ≤ β) := by
  have e : ∀ (o : ℕ) (ho : o + 128 ≤ 1024) (inb), (cols ![0, o] inb X (ix2 r l) : EReal) ≤ β
      ↔ (X (ix2 r ⟨o + l.val, by omega⟩) : EReal) ≤ β :=
    fun o ho inb => iff_of_eq (congrArg (fun z : EReal => z ≤ β) (cols_apply o ho inb X r l))
  rw [strips_apply]
  refine max_le_iff.trans (and_congr ?_ (e 896 (by omega) _))
  refine max_le_iff.trans (and_congr ?_ (e 768 (by omega) _))
  refine max_le_iff.trans (and_congr ?_ (e 640 (by omega) _))
  refine max_le_iff.trans (and_congr ?_ (e 512 (by omega) _))
  refine max_le_iff.trans (and_congr ?_ (e 384 (by omega) _))
  refine max_le_iff.trans (and_congr ?_ (e 256 (by omega) _))
  exact max_le_iff.trans (and_congr (e 0 (by omega) _) (e 128 (by omega) _))

/-- A place of a block's packed maxima has the upper bounds of one row of the block. -/
theorem packedMax_le (X : Vec Ideal S1024x1024 .bf16) (a : Fin 8) (b : Fin 128) (β : EReal) :
    (packedMax X (ix2 a b) : EReal) ≤ β ↔ ∀ q : Fin 1024, (X (ix2 (packedRow a b) q) : EReal) ≤ β := by
  unfold packedMax
  refine (lanes_le _ a b β).trans ((forall_congr' fun l => strips_le X (packedRow a b) l β).trans ?_)
  constructor
  · intro h q
    obtain ⟨⟨⟨⟨⟨⟨⟨h0, h1⟩, h2⟩, h3⟩, h4⟩, h5⟩, h6⟩, h7⟩ := h ⟨q.val % 128, Nat.mod_lt _ (by decide)⟩
    have key : ∀ o : ℕ, ∀ ho : o + q.val % 128 < 1024, o + q.val % 128 = q.val →
        (X (ix2 (packedRow a b) ⟨o + q.val % 128, ho⟩) : EReal) ≤ β → (X (ix2 (packedRow a b) q) : EReal) ≤ β :=
      fun o ho e hle => by rw [show q = ⟨o + q.val % 128, ho⟩ from Fin.ext e.symm]; exact hle
    have hlt := q.isLt
    have hcase : q.val / 128 = 0 ∨ q.val / 128 = 1 ∨ q.val / 128 = 2 ∨ q.val / 128 = 3 ∨ q.val / 128 = 4
        ∨ q.val / 128 = 5 ∨ q.val / 128 = 6 ∨ q.val / 128 = 7 := by omega
    rcases hcase with e | e | e | e | e | e | e | e
    · exact key 0 (by omega) (by omega) h0
    · exact key 128 (by omega) (by omega) h1
    · exact key 256 (by omega) (by omega) h2
    · exact key 384 (by omega) (by omega) h3
    · exact key 512 (by omega) (by omega) h4
    · exact key 640 (by omega) (by omega) h5
    · exact key 768 (by omega) (by omega) h6
    · exact key 896 (by omega) (by omega) h7
  · exact fun h l => ⟨⟨⟨⟨⟨⟨⟨h _, h _⟩, h _⟩, h _⟩, h _⟩, h _⟩, h _⟩, h _⟩

/-! ## One device -/

variable (m : (ℓ : Loc nD τ sig) → Buf (Elt Ideal) ℓ)

/-- Device `c`'s block of the matrix. -/
abbrev arg (c : Dev nD) : Vec Ideal S2048x1024 .bf16 := m ((c : Thread nD τ).loc main_arg0)

theorem index_zero : win0_0.index t0_0 = ![0, 0] := by decide
theorem index_one : win0_0.index t0_1 = ![1, 0] := by decide

/-- The staged block `k` holds rows `1024 k` to `1024 k + 1023`. -/
theorem xblk_apply (c : Dev nD) (k : Fin 2) (r q : Fin 1024) :
    xblk m c (pt k) (ix2 r q) = arg m c (ix2 ⟨1024 * k.val + r.val, by omega⟩ q) := by
  refine congrArg (arg m c) ?_
  match k with
  | ⟨0, _⟩ => blk_ext [index_zero]; show r.val = 1024 * 0 + r.val; omega
  | ⟨1, _⟩ => blk_ext [index_one]

/-- The place of row `r` among the packed maxima. -/
abbrev place (r : Fin 2048) : S16x128.Idx := ix2 ⟨r.val / 128, by omega⟩ ⟨r.val % 128, Nat.mod_lt _ (by decide)⟩

/-- A device's packed maximum of row `r` has the upper bounds of that row of its block. -/
theorem own_le (c : Dev nD) (r : Fin 2048) (β : EReal) :
    (own m c (place r) : EReal) ≤ β ↔ ∀ q : Fin 1024, (arg m c (ix2 r q) : EReal) ≤ β := by
  unfold own joined
  refine (packedMax_le _ _ _ β).trans (forall_congr' fun q => ?_)
  rw [xblk_apply]
  have e : (⟨1024 * (r.val / 128 / 8) + (128 * (r.val / 128 % 8) + r.val % 128), by omega⟩ : Fin 2048) = r :=
    Fin.ext (by show 1024 * (r.val / 128 / 8) + (128 * (r.val / 128 % 8) + r.val % 128) = r.val; omega)
  exact iff_of_eq (congrArg (fun z => (arg m c (ix2 z q) : EReal) ≤ β) e)

/-- The result of the two devices that hold row `r`. -/
theorem column_le (c : Dev nD) (r : Fin 2048) (u : Fin 1) (β : EReal) :
    (column m c (ix2 r u) : EReal) ≤ β
      ↔ (∀ q : Fin 1024, (arg m c (ix2 r q) : EReal) ≤ β) ∧ ∀ q : Fin 1024, (arg m (peer c) (ix2 r q) : EReal) ≤ β := by
  unfold column
  rw [shapeCast_apply _ _ (ix2 r u) (place r)
    ((Shape.rowMajor_val_two _).trans (Eq.trans (by show r.val / 128 * 128 + r.val % 128 = r.val * 1 + u.val; omega)
      (Shape.rowMajor_val_two _).symm))]
  unfold result k0_pay2
  exact (max_le_iff (α := EReal)).trans (and_congr (own_le m c r β) (own_le m (peer c) r β))

/-! ## The whole matrix -/

/-- The maximum of every row, as the reference computes it. -/
abbrev rowMaxima (x : Vec Ideal ReferenceIdeal.S4096x2048 .bf16) : Vec Ideal ReferenceIdeal.S4096x1 .bf16 :=
  broadcastInDim ReferenceIdeal.S4096x1 ![0] ReferenceIdeal.Gen.facts.bcast_S4096_S4096x1_0
    (Host.reduce (FloatOps.maximumf (F := Ideal) (φ := .bf16)) x (constant (F := Ideal) ReferenceIdeal.S_ .bf16 0xFF80#16)
      ReferenceIdeal.Gen.facts.reducesTo_S4096x2048_S4096_d1 ReferenceIdeal.Gen.facts.h_S_)

/-- A row's maximum has the upper bounds of the row. -/
theorem rowMaxima_le (x : Vec Ideal ReferenceIdeal.S4096x2048 .bf16) (r : Fin 4096) (u : Fin 1) (β : EReal) :
    (rowMaxima x (ix2 r u) : EReal) ≤ β ↔ ∀ q : Fin 2048, (x (ix2 r q) : EReal) ≤ β := by
  have e : rowMaxima x (ix2 r u) = Host.reduce (FloatOps.maximumf (F := Ideal) (φ := .bf16)) x
      (constant (F := Ideal) ReferenceIdeal.S_ .bf16 0xFF80#16)
      ReferenceIdeal.Gen.facts.reducesTo_S4096x2048_S4096_d1 ReferenceIdeal.Gen.facts.h_S_ (ix1 r) := by
    refine congrArg (Host.reduce _ _ _ _ _) (funext fun d => Fin.ext ?_)
    match d with
    | ⟨0, _⟩ => rfl
  rw [e, Host.reduce_eq_fold]
  exact fold_row_le _ (fun i => Shape.ReducesTo.drop_apply_val_of_eq _ i 0 0) x (ix1 r) β

/-- The row of the whole matrix at row `r` of device `c`'s block, and its column. -/
abbrev wholeRow (c : Dev nD) (r : Fin 2048) : Fin 4096 := ⟨c.val / 2 * 2048 + r.val, by have : c.val < 4 := c.isLt; omega⟩
abbrev wholeCol (c : Dev nD) (q : Fin 1024) : Fin 2048 := ⟨c.val % 2 * 1024 + q.val, by omega⟩

/-- Both devices of a pair hold the same rows, and one column of them is the other's other. -/
theorem peer_row (c : Dev nD) : (peer c).val / 2 = c.val / 2 := by revert c; decide
theorem peer_col (c : Dev nD) : (peer c).val % 2 = 1 - c.val % 2 := by revert c; decide

variable {m} in
/-- What a device's block holds of the whole matrix. -/
theorem arg_apply (x : Vec Ideal ReferenceIdeal.S4096x2048 .bf16)
    (hx : ∀ c : Dev nD, m ((c : Thread nD τ).loc main_arg0)
      = Layout.blockN ⟨2, ![2048, 1024]⟩ ⟨2, ![4096, 2048]⟩ (Layout.meshBlock [2, 2] ![[0], [1]] c) x)
    (c : Dev nD) (r : Fin 2048) (q : Fin 1024) : arg m c (ix2 r q) = x (ix2 (wholeRow c r) (wholeCol c q)) := by
  unfold arg
  rw [hx c]
  refine congrArg x (funext fun d => Fin.ext ?_)
  have hc : c.val < 4 := c.isLt
  match d with
  | ⟨0, _⟩ => show (c.val / 2 % 2 * 1 + 0) * 2048 + r.val = c.val / 2 * 2048 + r.val; omega
  | ⟨1, _⟩ => show (c.val / 1 % 2 * 1 + 0) * 1024 + q.val = c.val % 2 * 1024 + q.val; omega

variable {m} in
/-- Every device's result is its block of the row maxima of the whole matrix. -/
theorem column_eq (x : Vec Ideal ReferenceIdeal.S4096x2048 .bf16)
    (hx : ∀ c : Dev nD, m ((c : Thread nD τ).loc main_arg0)
      = Layout.blockN ⟨2, ![2048, 1024]⟩ ⟨2, ![4096, 2048]⟩ (Layout.meshBlock [2, 2] ![[0], [1]] c) x) (c : Dev nD) :
    column m c = Layout.blockN ⟨2, ![2048, 1]⟩ ⟨2, ![4096, 1]⟩ (Layout.meshBlock [2, 2] ![[0], []] c) (rowMaxima x) := by
  have at_row : ∀ (r : Fin 2048) (u : Fin 1), column m c (ix2 r u) = rowMaxima x (ix2 (wholeRow c r) u) := by
    intro r u
    refine eq_of_forall_ge_iff (α := EReal) fun β => (column_le m c r u β).trans ?_
    refine Iff.trans ?_ (rowMaxima_le x (wholeRow c r) u β).symm
    have own_at : ∀ q, (arg m c (ix2 r q) : EReal) = x (ix2 (wholeRow c r) (wholeCol c q)) := arg_apply x hx c r
    have peer_at : ∀ q, (arg m (peer c) (ix2 r q) : EReal) = x (ix2 (wholeRow c r) (wholeCol (peer c) q)) := fun q =>
      (arg_apply x hx (peer c) r q).trans (congrArg (fun z => x (ix2 z (wholeCol (peer c) q)))
        (Fin.ext (by show (peer c).val / 2 * 2048 + r.val = c.val / 2 * 2048 + r.val; rw [peer_row])))
    constructor
    · rintro ⟨h1, h2⟩ q
      have hq : q.val < 2048 := q.isLt
      by_cases hc : q.val / 1024 = c.val % 2
      · have h := h1 ⟨q.val % 1024, Nat.mod_lt _ (by decide)⟩
        rw [own_at] at h
        have e : wholeCol c ⟨q.val % 1024, Nat.mod_lt _ (by decide)⟩ = q :=
          Fin.ext (by show c.val % 2 * 1024 + q.val % 1024 = q.val; omega)
        rw [e] at h
        exact h
      · have h := h2 ⟨q.val % 1024, Nat.mod_lt _ (by decide)⟩
        rw [peer_at] at h
        have e : wholeCol (peer c) ⟨q.val % 1024, Nat.mod_lt _ (by decide)⟩ = q :=
          Fin.ext (by show (peer c).val % 2 * 1024 + q.val % 1024 = q.val; rw [peer_col]; omega)
        rw [e] at h
        exact h
    · exact fun h => ⟨fun q => (own_at q).le.trans (h _), fun q => (peer_at q).le.trans (h _)⟩
  funext i
  refine (congrArg (column m c) (eq_ix2 i)).trans ((at_row (i 0) (i 1)).trans (congrArg (rowMaxima x) (funext fun d => Fin.ext ?_)))
  have hc : c.val < 4 := c.isLt
  match d with
  | ⟨0, _⟩ => show c.val / 2 * 2048 + (i 0).val = (c.val / 2 % 2 * 1 + 0) * 2048 + (i 0).val; omega
  | ⟨1, _⟩ => show (i 1).val = 0 * 1 + (i 1).val; omega

end Cert.RowMax

end
-- ==== Proof.lean ====
/-
# Row maxima over a 2 × 2 mesh: the claims

Assembled from the kernel's run (`Proof/Run.lean`), which holds at any reading of the floats and so serves both the
program and its idealization, from its value (`Proof/Value.lean`), and from the reference's run.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-! ## The program and its idealization are one text -/

theorem bodies_same : Cert.KernelIdeal.defs₀ (F := Bits) = Cert.Kernel.defs₀ (F := Bits) := by
  unfold Cert.KernelIdeal.defs₀ Cert.Kernel.defs₀
  refine congrArg Defs.onTc (funext fun l => funext fun a => ?_)
  match l, a with
  | ⟨0, _⟩, (t, s) => rfl

theorem tables_same : Cert.KernelIdeal.defs (F := Bits) = Cert.Kernel.defs (F := Bits) := by
  unfold Cert.KernelIdeal.defs Cert.Kernel.defs
  rw [bodies_same]
  rfl

/-! ## The frames -/

theorem frame_kernel : Cert.quiescent_Kernel := fun m ρ _ => by
  have h := Cert.RowMax.run_main (F := Bits) m ρ
  rw [tables_same] at h
  exact (θ_run Cert.Kernel.defs _ _).mono (fun _ h => ⟨fun c => (h.1 c).1, h.2⟩) h

theorem frame_ideal : Cert.quiescent_KernelIdeal := fun m ρ _ =>
  (θ_run Cert.KernelIdeal.defs _ _).mono (fun _ h => ⟨fun c => (h.1 c).1, h.2⟩) (Cert.RowMax.run_main (F := Ideal) m ρ)

/-- The reference has no semaphore. -/
theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

/-! ## The values -/

theorem values : Cert.algebraic_KernelIdeal_ReferenceIdeal := fun m ρ m' ρ' _ hx =>
  ⟨Cert.RowMax.rowMaxima (m' (((0 : Dev Cert.ReferenceIdeal.nD).tc : Thread Cert.ReferenceIdeal.nD Cert.ReferenceIdeal.τ).loc
      Cert.ReferenceIdeal.main_arg0)),
    (θ_run Cert.KernelIdeal.defs _ _).mono
      (fun _ h c => ⟨(h.1 c).2.trans (Cert.RowMax.column_eq _ hx c), (h.1 c).1⟩) (Cert.RowMax.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
